-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_top_score_is_finite [hPre_top_score_is_finite : Cert.Pre_top_score_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_top_score_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_top_score_is_finite [hPre_top_score_is_finite : Cert.Pre_top_score_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_top_score_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_top_score_is_finite [hKernelIdeal : Cert.KernelIdeal.Facts] [hPre_top_score_is_finite : Cert.Pre_top_score_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_top_score_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_top_score_is_finite [hReferenceIdeal : Cert.ReferenceIdeal.Facts] [hPre_top_score_is_finite : Cert.Pre_top_score_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_top_score_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_top_score_is_finite [hKernelIdeal : Cert.KernelIdeal.Facts] [hReferenceIdeal : Cert.ReferenceIdeal.Facts] [hPre_top_score_is_finite : Cert.Pre_top_score_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_top_score_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_top_score_is_finite : Cert.Pre_top_score_is_finite.Facts),
    quiescent_Kernel (hKernel := hKernel)
    ∧ quiescent_KernelIdeal (hKernelIdeal := hKernelIdeal)
    ∧ quiescent_KernelIdeal_pre_top_score_is_finite (hKernelIdeal := hKernelIdeal) (hPre_top_score_is_finite := hPre_top_score_is_finite)
    ∧ quiescent_ReferenceIdeal (hReferenceIdeal := hReferenceIdeal)
    ∧ quiescent_ReferenceIdeal_pre_top_score_is_finite (hReferenceIdeal := hReferenceIdeal) (hPre_top_score_is_finite := hPre_top_score_is_finite)
    ∧ preserves_Kernel_KernelIdeal
    ∧ algebraic_KernelIdeal_ReferenceIdeal_pre_top_score_is_finite (hKernelIdeal := hKernelIdeal) (hReferenceIdeal := hReferenceIdeal) (hPre_top_score_is_finite := hPre_top_score_is_finite)
-- ==== Pre_top_score_is_finite.lean ====
abbrev S32x2048x256 : Shape := ⟨3, ![32, 2048, 256]⟩
abbrev S32x2048x64 : Shape := ⟨3, ![32, 2048, 64]⟩
abbrev S_ : Shape := ⟨0, ![]⟩
abbrev S32x2048 : Shape := ⟨2, ![32, 2048]⟩
abbrev S32 : Shape := ⟨1, ![32]⟩

class Facts : Prop where
  reducesTo_S32x2048x64_S32x2048_d2 : S32x2048x64.ReducesTo [2] S32x2048
  h_S_ : 0 < S_.numel
  reducesTo_S32x2048_S32_d1 : S32x2048.ReducesTo [1] S32
  bcast_S_S32 : S_.BroadcastsInDim S32 (![] : Fin 0 → Fin S32.rank)

variable [Facts]

def fn {F : FTy → Type} [FloatOps F] (main_arg0 : FVec F S32x2048x256 .f32) (main_arg1 : FVec F S32x2048x64 .f32) : IVec S32 1 :=
  let main_cst : FVec F S_ .f32 := constant S_ .f32 0xFF800000#32
  let main_v0 : FVec F S32x2048 .f32 := (fun x v => Host.reduce FloatOps.maximumf x v reducesTo_S32x2048x64_S32x2048_d2 h_S_) main_arg1 main_cst
  let main_cst_0 : FVec F S_ .f32 := constant S_ .f32 0xFF800000#32
  let main_v1 : FVec F S32 .f32 := (fun x v => Host.reduce FloatOps.maximumf x v reducesTo_S32x2048_S32_d1 h_S_) main_v0 main_cst_0
  let main_cst_1 : FVec F S_ .f32 := constant S_ .f32 0xFF800000#32
  let main_v2 : FVec F S32 .f32 := broadcastInDim S32 ![] bcast_S_S32 main_cst_1
  let main_v3 : IVec S32 1 := cmpf .ogt main_v1 main_v2
  let main_cst_2 : FVec F S_ .f32 := constant S_ .f32 0x7F800000#32
  let main_v4 : FVec F S32 .f32 := broadcastInDim S32 ![] bcast_S_S32 main_cst_2
  let main_v5 : IVec S32 1 := cmpf .olt main_v1 main_v4
  let main_v6 : IVec S32 1 := andi main_v3 main_v5
  main_v6
-- ==== Kernel.lean ====
abbrev S32x2048x256 : Shape := ⟨3, ![32, 2048, 256]⟩
abbrev S32x2048x64 : Shape := ⟨3, ![32, 2048, 64]⟩
abbrev S1x2048x256 : Shape := ⟨3, ![1, 2048, 256]⟩
abbrev S1x2048x64 : Shape := ⟨3, ![1, 2048, 64]⟩
abbrev S4x2048x256 : Shape := ⟨3, ![4, 2048, 256]⟩
abbrev S4 : Shape := ⟨1, ![4]⟩
abbrev S2048x64 : Shape := ⟨2, ![2048, 64]⟩
abbrev S2048x256 : Shape := ⟨2, ![2048, 256]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S256 : Shape := ⟨1, ![256]⟩
abbrev S1x256 : Shape := ⟨2, ![1, 256]⟩
abbrev S_ : Shape := ⟨0, ![]⟩
abbrev S1x1x256 : Shape := ⟨3, ![1, 1, 256]⟩

abbrev nBuf : Space → Nat
  | .hbm => 3
  | .vmem => 5
  | .smem => 0
  | _ => 0

abbrev bufTy : (tb : Table) → Fin (tcTables nBuf tb) → BufTy
  | .hbm, ⟨0, _⟩ => ⟨S32x2048x256, .f32⟩
  | .hbm, ⟨1, _⟩ => ⟨S32x2048x64, .f32⟩
  | .hbm, ⟨2, _⟩ => ⟨S32x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x64, .f32⟩
  | .local _ .vmem, ⟨3, _⟩ => ⟨S1x2048x64, .f32⟩
  | .local _ .vmem, ⟨4, _⟩ => ⟨S4x2048x256, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c4_i32_8 : BitVec 32 := 4#32
  let v20 : BitVec 1 := Scalar.cmpi .sge arg0 c4_i32_8
  let v21 : BitVec 32 := Scalar.extui v20
  let c0_i32 : BitVec 32 := 0#32
  let v22 : BitVec 1 := Scalar.cmpi .ne v21 c0_i32
  v22

def k0_off1 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off2 (i : grid0.Coords) : Fin 3 → Nat :=
  let arg0 : BitVec 32 := BitVec.ofNat 32 (i 0).val
  let c4_i32_16 : BitVec 32 := 4#32
  let v38 : BitVec 32 := Scalar.subi arg0 c4_i32_16
  let c0_i32_17 : BitVec 32 := 0#32
  let c0_i32_18 : BitVec 32 := 0#32
  ![v38.toNat, 0, 0]
def k0_off3 (i : grid0.Coords) : Fin 3 → Nat :=
  let arg0 : BitVec 32 := BitVec.ofNat 32 (i 0).val
  let c4_i32 : BitVec 32 := 4#32
  let v0 : BitVec 32 := Scalar.remsi arg0 c4_i32
  let c0_i32_19 : BitVec 32 := 0#32
  let c0_i32_20 : BitVec 32 := 0#32
  ![v0.toNat, 0, 0]
def k0_off4 (i : grid0.Coords) : Fin 3 → Nat :=
  let arg0 : BitVec 32 := BitVec.ofNat 32 (i 0).val
  let c4_i32 : BitVec 32 := 4#32
  let v0 : BitVec 32 := Scalar.remsi arg0 c4_i32
  let v25 : Index := Scalar.indexCast v0
  let c0_9 : Index := 0#32
  let c0_10 : Index := 0#32
  ![v25.toNat, 0, 0]
def k0_off5 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off6 (i : grid0.Coords) : Fin 3 → Nat :=
  let arg0 : BitVec 32 := BitVec.ofNat 32 (i 0).val
  let c0_i32_11 : BitVec 32 := 0#32
  let c0_i32_12 : BitVec 32 := 0#32
  ![arg0.toNat, 0, 0]
def k0_off7 (i : grid0.Coords) : Fin 3 → Nat :=
  let arg0 : BitVec 32 := BitVec.ofNat 32 (i 0).val
  let c4_i32 : BitVec 32 := 4#32
  let v0 : BitVec 32 := Scalar.remsi arg0 c4_i32
  let c0_i32_13 : BitVec 32 := 0#32
  let c0_i32_14 : BitVec 32 := 0#32
  ![v0.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S32x2048x256 : Shape := ⟨3, ![32, 2048, 256]⟩
abbrev S32x2048x64 : Shape := ⟨3, ![32, 2048, 64]⟩
abbrev S_ : Shape := ⟨0, ![]⟩
abbrev S32x2048 : Shape := ⟨2, ![32, 2048]⟩
abbrev S32 : Shape := ⟨1, ![32]⟩
abbrev S32x1 : Shape := ⟨2, ![32, 1]⟩
abbrev S32x256 : Shape := ⟨2, ![32, 256]⟩
abbrev S32x1x256 : Shape := ⟨3, ![32, 1, 256]⟩

abbrev nBuf : Space → Nat
  | .hbm => 21
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S32x2048x64, .f32⟩
  | .hbm, ⟨2, _⟩ => ⟨S_, .f32⟩
  | .hbm, ⟨3, _⟩ => ⟨S32x2048, .f32⟩
  | .hbm, ⟨4, _⟩ => ⟨S_, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32x1, .f32⟩
  | .hbm, ⟨10, _⟩ => ⟨S32x2048, .f32⟩
  | .hbm, ⟨11, _⟩ => ⟨S32x2048, .f32⟩
  | .hbm, ⟨12, _⟩ => ⟨S32x2048, .f32⟩
  | .hbm, ⟨13, _⟩ => ⟨S_, .f32⟩
  | .hbm, ⟨14, _⟩ => ⟨S32, .f32⟩
  | .hbm, ⟨15, _⟩ => ⟨S32x1, .f32⟩
  | .hbm, ⟨16, _⟩ => ⟨S32x2048, .f32⟩
  | .hbm, ⟨17, _⟩ => ⟨S32x2048, .f32⟩
  | .hbm, ⟨18, _⟩ => ⟨S32x256, .f32⟩
  | .hbm, ⟨19, _⟩ => ⟨S32x1x256, .f32⟩
  | .hbm, ⟨20, _⟩ => ⟨S32x2048x256, .f32⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Roles.lean ====
/- A write-behind ring of four groups whose copies are waited four steps after they are issued.

   Before step `p` the four groups play four roles: role `j` is the group that step `p + j` will use. Role 0 is the
   group the step itself uses, and it is the only one the step changes. So a step is three facts, one for any step:
   the step's role taken off the four, the same three roles seen from the next step, and the drained ring. -/
module

public import Idealize.ShloMosaic.Lib.Ring.WriteBehind

@[expose] public section

noncomputable section

namespace Cert.Roles

open Idealize.ShloMosaic Idealize.ShloMosaic.Ring
open Idealize.SL
open Idealize.SL.BI (sProp bigSep Entails)
open scoped Idealize.SL.BI
open Idealize.SL.BI.BIBase Idealize.SL.BI.Laws Idealize.SL.Sem Idealize.SL.ProofMode
open Idealize.SL.RA

variable {M : Type _} [URA M]

/-- A family over four groups is its four members. -/
theorem four (P : Fin 4 → sProp M) : bigSep Finset.univ P = iprop(P 0 ∗ P 1 ∗ P 2 ∗ P 3) := by
  rw [BI.bigSep_eq_bigSepL_of_eq [0, 1, 2, 3] (by decide) (by decide)]; rfl

/-- A conjunction of three groups one way or the other. -/
theorem regroup (P Q R : sProp M) : iprop((P ∗ Q) ∗ R) = iprop(P ∗ Q ∗ R) :=
  Entails.antisymm Idealize.SL.BI.sep_assoc Idealize.SL.BI.sep_assoc'

/-- Four consecutive steps use each of the four groups once: a family over the groups, listed from step `p = 31` on. -/
theorem four_from_last (P : Fin 4 → sProp M) (p : ℕ) (hp : p = 31) :
    bigSep Finset.univ P = iprop(P (sl 4 p) ∗ P (sl 4 (p + 1)) ∗ P (sl 4 (p + 2)) ∗ P (sl 4 (p + 3))) := by
  subst hp
  rw [BI.bigSep_eq_bigSepL_of_eq [3, 0, 1, 2] (by decide) (by decide)]; rfl

variable (free : Fin 4 → sProp M) (infl : Fin 4 → Fin 32 → sProp M) (ahead behind : Fin 32 → sProp M)

/-- The three groups step `p` leaves alone, in their roles. -/
def others (p : ℕ) : sProp M :=
  iprop(roleB 4 free infl p 1 ∗ roleB 4 free infl p 2 ∗ roleB 4 free infl p 3)

/-- A role seen one step later is the role before it. -/
theorem roleB_shift (p : ℕ) (i j : Fin 4) (h : j.val = i.val + 1) :
    roleB 4 free infl (p + 1) i = roleB 4 free infl p j := by
  unfold roleB
  have e : p + 1 + i.val = p + j.val := by omega
  rw [e]
  exact if_congr (by omega) rfl rfl

/-- Before step `p`: the step's own group, and the three others. -/
theorem roles_here (p : ℕ) :
    bigSep Finset.univ (roleB 4 free infl p) = iprop(roleB 4 free infl p 0 ∗ others free infl p) := four _

/-- Before step `p + 1`: those three, and step `p`'s group carrying step `p`'s copy. -/
theorem roles_next (p : ℕ) :
    bigSep Finset.univ (roleB 4 free infl (p + 1)) = iprop(others free infl p ∗ infl (sl 4 p) (bk 32 p)) := by
  have e3 : roleB 4 free infl (p + 1) 3 = infl (sl 4 p) (bk 32 p) := by
    rw [roleB_of_infl _ _ _ _ _ (by show 4 ≤ p + 1 + 3 ∧ 4 ≤ 3 + 4; omega)]
    have e : sl 4 (p + 1 + (3 : Fin 4).val) = sl 4 p := Fin.ext (by show (p + 1 + 3) % 4 = p % 4; omega)
    have e' : p + 1 + (3 : Fin 4).val - 4 = p := by show p + 1 + 3 - 4 = p; omega
    rw [e, e']
  rw [four, roleB_shift free infl p 0 1 rfl, roleB_shift free infl p 1 2 rfl, roleB_shift free infl p 2 3 rfl, e3]
  unfold others
  rw [regroup, regroup]

/-- In the first four steps the step's own group is free. -/
theorem role_free (p : ℕ) (h : p < 4) : roleB 4 free infl p 0 = free (sl 4 p) :=
  roleB_of_free _ _ _ _ _ (by show ¬(4 ≤ p + 0 ∧ 4 ≤ 0 + 4); omega)

/-- From step 4 on it carries the copy of four steps before. -/
theorem role_infl (p : ℕ) (h : 4 ≤ p) : roleB 4 free infl p 0 = infl (sl 4 p) (bk 32 (p - 4)) :=
  roleB_of_infl _ _ _ _ _ (by show 4 ≤ p + 0 ∧ 4 ≤ 0 + 4; omega)

/-- From step 3 on the three others carry the copies of the three steps before. -/
theorem others_infl (p : ℕ) (h : 3 ≤ p) :
    others free infl p = iprop(infl (sl 4 (p + 1)) (bk 32 (p - 3)) ∗ infl (sl 4 (p + 2)) (bk 32 (p - 2)) ∗ infl (sl 4 (p + 3)) (bk 32 (p - 1))) := by
  unfold others
  rw [roleB_of_infl _ _ _ p 1 (by show 4 ≤ p + 1 ∧ 4 ≤ 1 + 4; omega), roleB_of_infl _ _ _ p 2 (by show 4 ≤ p + 2 ∧ 4 ≤ 2 + 4; omega),
    roleB_of_infl _ _ _ p 3 (by show 4 ≤ p + 3 ∧ 4 ≤ 3 + 4; omega)]
  have e1 : p + (1 : Fin 4).val - 4 = p - 3 := by show p + 1 - 4 = _; omega
  have e2 : p + (2 : Fin 4).val - 4 = p - 2 := by show p + 2 - 4 = _; omega
  have e3 : p + (3 : Fin 4).val - 4 = p - 1 := by show p + 3 - 4 = _; omega
  rw [e1, e2, e3]; rfl

/-- Before step `p` that step's piece is among the pieces ahead. -/
theorem ahead_here (p : ℕ) (h : p < 32) :
    bigSep (aheadSet p) ahead = iprop(ahead (bk 32 p) ∗ bigSep (aheadSet (p + 1)) ahead) := by
  rw [aheadSet_open p h]; exact bigSep_put (bk_not_mem_aheadSet_succ p h) ahead

/-- Through the first four steps no piece is behind. -/
theorem behind_none (p : ℕ) (h : p ≤ 4) : bigSep (behindSet (NB := 32) 4 p) behind = BI.emp := by
  rw [behindSet_boot 4 p h]; exact BI.bigSep_empty

/-- From step 4 on, step `p` adds the piece of four steps before to the pieces behind. -/
theorem behind_next (p : ℕ) (h4 : 4 ≤ p) (h : p < 32) :
    bigSep (behindSet 4 (p + 1)) behind = iprop(behind (bk 32 (p - 4)) ∗ bigSep (behindSet 4 p) behind) := by
  rw [behindSet_close 4 p h4 h]; exact bigSep_put (bk_not_mem_behindSet 4 p h4 h) behind

/-- After the last step, which waits its own copy and the three others, every piece is behind. -/
theorem behind_all (p : ℕ) (hp : p = 31) :
    bigSep Finset.univ behind
      = iprop(behind (bk 32 p) ∗ behind (bk 32 (p - 1)) ∗ behind (bk 32 (p - 2)) ∗ behind (bk 32 (p - 3)) ∗ behind (bk 32 (p - 4))
        ∗ bigSep (behindSet 4 p) behind) := by
  subst hp
  have e : (Finset.univ : Finset (Fin 32))
      = insert (bk 32 31) (insert (bk 32 (31 - 1)) (insert (bk 32 (31 - 2)) (insert (bk 32 (31 - 3)) (insert (bk 32 (31 - 4)) (behindSet 4 31))))) := by
    decide
  rw [e, bigSep_put (by decide) behind, bigSep_put (by decide) behind, bigSep_put (by decide) behind, bigSep_put (by decide) behind,
    bigSep_put (by decide) behind]

end Cert.Roles

end
-- ==== Proof.KernelIdealBuffers.lean ====
/- The buffers of the kernel's write-behind, by name.

   The kernel keeps four slots of scratch. Step `b` of the grid writes its block of the result into slot `b mod 4`
   and starts a copy of that slot to block `b` of the result, counted on the slot's own semaphore; step `b + 4` waits
   it before it writes the slot again, and the last step waits whatever is still being copied. This file names the
   slots, the blocks and the semaphores, says which of them each operation of step `t` touches, and cuts the two
   buffers into them. -/
module

public import proofs.«01_k».proof.Proof.Gen.KernelIdeal.Frame
public import proofs.«01_k».proof.Proof.Gen.KernelIdeal.Skeleton
public import proofs.«01_k».proof.Proof.Roles
public import Idealize.ShloMosaic.Lib.Pipeline.FrameValue

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.Ring (sl bk)

variable {F : FTy → Type} [FloatOps F]

local notation "𝕄" => MT nD τ sig Unit (Elt F) ℕ (Pipeline.UD sig nD τ) ℕ

/-! ## When the two conditions of the body hold -/

/-- The step waits the copy of four steps before. -/
abbrev Waits4 (i : grid0.Coords) : Prop := k0_cond1 i = 1#1
/-- The step is the last one, and drains the slots. -/
abbrev Drains (i : grid0.Coords) : Prop :=
  Scalar.cmpi .ne (Scalar.extui (Scalar.cmpi .eq (BitVec.ofNat 32 (i 0).val) 31#32)) 0#32 = 1#1

/-- A step waits from step 4 on. -/
theorem waits_iff : ∀ t : Fin cfg0.N, Waits4 (grid0.coords t) ↔ 4 ≤ t.val :=
  (by decide +kernel : ∀ t : Fin grid0.N, Waits4 (grid0.coords t) ↔ 4 ≤ t.val)
/-- Only step 31 drains. -/
theorem drains_iff : ∀ t : Fin cfg0.N, Drains (grid0.coords t) ↔ t.val = 31 :=
  (by decide +kernel : ∀ t : Fin grid0.N, Drains (grid0.coords t) ↔ t.val = 31)

/-! ## Slots, blocks and semaphores -/

/-- The scratch, whole. -/
abbrev scratch : Memref sig .tc .vmem S4x2048x256 .f32 := Memref.whole cc0_scratch0
/-- The result, whole. -/
abbrev result : Memref sig .tc .hbm S32x2048x256 .f32 := Memref.whole main_v0

theorem slot_inb (g : Fin 4) : ∀ a, (![g.val, 0, 0] : Fin 3 → Nat) a + S1x2048x256.size a ≤ S4x2048x256.size a := by
  have := g.isLt; intro a; fin_cases a <;> simp <;> omega
theorem piece_inb (u : Fin 32) : ∀ a, (![u.val, 0, 0] : Fin 3 → Nat) a + S1x2048x256.size a ≤ S32x2048x256.size a := by
  have := u.isLt; intro a; fin_cases a <;> simp <;> omega
theorem cell_inb (g : Fin 4) : ∀ a, (![g.val] : Fin 1 → Nat) a + S1.size a ≤ S4.size a := by
  have := g.isLt; intro a; fin_cases a; simp; omega

/-- Slot `g` of the scratch, as a copy names it. -/
def slot (g : Fin 4) : Memref sig .tc .vmem S2048x256 .f32 :=
  (scratch.slice (Rect.unit (s := S4x2048x256) ![g.val, 0, 0] S1x2048x256.size (slot_inb g)) (fun _ => rfl)).squeeze S2048x256 squeezes_S1x2048x256_S2048x256
/-- Block `u` of the result, as a copy names it. -/
def piece (u : Fin 32) : Memref sig .tc .hbm S2048x256 .f32 :=
  (result.slice (Rect.unit (s := S32x2048x256) ![u.val, 0, 0] S1x2048x256.size (piece_inb u)) (fun _ => rfl)).squeeze S2048x256 squeezes_S1x2048x256_S2048x256
/-- The semaphore of slot `g`. -/
def cell (g : Fin 4) : DmaSems sig S_ := (cc0_scratch1.slice (Rect.unit (s := S4) ![g.val] S1.size (cell_inb g))).squeeze S_ squeezes_S1_S_
abbrev cellLoc (g : Fin 4) : SemLoc sig := SemLoc.dma (cell g).sem

/-- The four semaphores of the kernel's own, by their numbers. -/
abbrev own : Fin 4 → SemLoc sig := fun j => (![SemLoc.dma 4, SemLoc.dma 5, SemLoc.dma 6, SemLoc.dma 7] : Fin 4 → SemLoc sig) j
theorem own_facts : Pipeline.OwnSemFacts spec0 own := by decide
theorem cellLoc_eq : ∀ g : Fin 4, cellLoc g = own g := by decide

/-! ## What the operations of step `t` touch -/

section Names

omit [FloatOps F]

theorem off1 : ∀ t : Fin grid0.N, k0_off1 (grid0.coords t) = ![(sl 4 t.val).val] := by decide +kernel
theorem off2 : ∀ t : Fin grid0.N, Waits4 (grid0.coords t) → k0_off2 (grid0.coords t) = ![(bk 32 (t.val - 4)).val, 0, 0] := by decide +kernel
theorem off3 : ∀ t : Fin grid0.N, k0_off3 (grid0.coords t) = ![(sl 4 t.val).val, 0, 0] := by decide +kernel
theorem off4 : ∀ t : Fin grid0.N, k0_off4 (grid0.coords t) = ![(sl 4 t.val).val, 0, 0] := by decide +kernel
theorem off5 : ∀ t : Fin grid0.N, k0_off5 (grid0.coords t) = ![(sl 4 t.val).val] := by decide +kernel
theorem off6 : ∀ t : Fin grid0.N, k0_off6 (grid0.coords t) = ![(bk 32 t.val).val, 0, 0] := by decide +kernel
theorem off7 : ∀ t : Fin grid0.N, k0_off7 (grid0.coords t) = ![(sl 4 t.val).val, 0, 0] := by decide +kernel

/-- A semaphore named at offset `o` is slot `g`'s when `o` is `g`. -/
theorem cell_named (o : Fin 1 → Nat) (h : ∀ a, o a + S1.size a ≤ S4.size a) (g : Fin 4) (e : o = ![g.val]) :
    (cc0_scratch1.slice (Rect.unit (s := S4) o S1.size h)).squeeze S_ squeezes_S1_S_ = cell g :=
  congrArg (fun A : DmaSems sig S1 => A.squeeze S_ squeezes_S1_S_) (SemArray.slice_unit_congr _ e _ _)
/-- A part of the scratch named at offset `o` is slot `g` when `o` is `g`'s. -/
theorem slot_named (o : Fin 3 → Nat) (h : ∀ a, o a + S1x2048x256.size a ≤ S4x2048x256.size a) (g : Fin 4) (e : o = ![g.val, 0, 0]) :
    (scratch.slice (Rect.unit (s := S4x2048x256) o S1x2048x256.size h) (fun _ => rfl)).squeeze S2048x256 squeezes_S1x2048x256_S2048x256 = slot g :=
  congrArg (fun M : Memref sig .tc .vmem S1x2048x256 .f32 => M.squeeze S2048x256 squeezes_S1x2048x256_S2048x256) (Memref.slice_unit_congr _ e _ _ (fun _ => rfl) (fun _ => rfl))
/-- A part of the result named at offset `o` is block `u` when `o` is `u`'s. -/
theorem piece_named (o : Fin 3 → Nat) (h : ∀ a, o a + S1x2048x256.size a ≤ S32x2048x256.size a) (u : Fin 32) (e : o = ![u.val, 0, 0]) :
    (result.slice (Rect.unit (s := S32x2048x256) o S1x2048x256.size h) (fun _ => rfl)).squeeze S2048x256 squeezes_S1x2048x256_S2048x256 = piece u :=
  congrArg (fun M : Memref sig .tc .hbm S1x2048x256 .f32 => M.squeeze S2048x256 squeezes_S1x2048x256_S2048x256) (Memref.slice_unit_congr _ e _ _ (fun _ => rfl) (fun _ => rfl))

variable (t : Fin grid0.N)

/-- The copy of step `t` is counted on the semaphore of slot `t mod 4`, … -/
@[sl_canon] theorem start_cell :
    (cc0_scratch1.slice (Rect.unit (s := S4) (k0_off5 (grid0.coords t)) S1.size (k0_off5_inb (grid0.coords t)))).squeeze S_ squeezes_S1_S_ = cell (sl 4 t.val) :=
  cell_named _ _ _ (off5 t)
/-- … reads that slot … -/
@[sl_canon] theorem start_slot :
    (scratch.slice (Rect.unit (s := S4x2048x256) (k0_off7 (grid0.coords t)) S1x2048x256.size (k0_off7_inb (grid0.coords t))) (fun _ => rfl)).squeeze S2048x256 squeezes_S1x2048x256_S2048x256 = slot (sl 4 t.val) :=
  slot_named _ _ _ (off7 t)
/-- … and writes block `t`. -/
@[sl_canon] theorem start_piece :
    (result.slice (Rect.unit (s := S32x2048x256) (k0_off6 (grid0.coords t)) S1x2048x256.size (k0_off6_inb (grid0.coords t))) (fun _ => rfl)).squeeze S2048x256 squeezes_S1x2048x256_S2048x256 = piece (bk 32 t.val) :=
  piece_named _ _ _ (off6 t)

/-- The copy waited is counted on that same semaphore, … -/
@[sl_canon] theorem wait_cell (h : Waits4 (grid0.coords t)) :
    (cc0_scratch1.slice (Rect.unit (s := S4) (k0_off1 (grid0.coords t)) S1.size (k0_off1_inb (grid0.coords t) h))).squeeze S_ squeezes_S1_S_ = cell (sl 4 t.val) :=
  cell_named _ _ _ (off1 t)
/-- … from that same slot, … -/
@[sl_canon] theorem wait_slot (h : Waits4 (grid0.coords t)) :
    (scratch.slice (Rect.unit (s := S4x2048x256) (k0_off3 (grid0.coords t)) S1x2048x256.size (k0_off3_inb (grid0.coords t) h)) (fun _ => rfl)).squeeze S2048x256 squeezes_S1x2048x256_S2048x256 = slot (sl 4 t.val) :=
  slot_named _ _ _ (off3 t)
/-- … to block `t - 4`. -/
@[sl_canon] theorem wait_piece (h : Waits4 (grid0.coords t)) :
    (result.slice (Rect.unit (s := S32x2048x256) (k0_off2 (grid0.coords t)) S1x2048x256.size (k0_off2_inb (grid0.coords t) h)) (fun _ => rfl)).squeeze S2048x256 squeezes_S1x2048x256_S2048x256 = piece (bk 32 (t.val - 4)) :=
  piece_named _ _ _ (off2 t h)

/-- The block of step `t` is stored inside slot `t mod 4`. -/
instance (priority := high) store_inside : ClosedOff (k0_off4 (grid0.coords t)) := ⟨![(sl 4 t.val).val, 0, 0], off4 t⟩

/-! The last step names the slots it drains by their numbers: the first three here, and slot 3, its own. -/

@[sl_canon] theorem drain_cell0 : (cc0_scratch1.slice (Rect.unit (s := S4) ![0] S1.size inb_S4_S1_0)).squeeze S_ squeezes_S1_S_ = cell 0 := cell_named _ _ 0 rfl
@[sl_canon] theorem drain_cell1 : (cc0_scratch1.slice (Rect.unit (s := S4) ![1] S1.size inb_S4_S1_1)).squeeze S_ squeezes_S1_S_ = cell 1 := cell_named _ _ 1 rfl
@[sl_canon] theorem drain_cell2 : (cc0_scratch1.slice (Rect.unit (s := S4) ![2] S1.size inb_S4_S1_2)).squeeze S_ squeezes_S1_S_ = cell 2 := cell_named _ _ 2 rfl
@[sl_canon] theorem drain_slot0 : (scratch.slice (Rect.unit (s := S4x2048x256) ![0, 0, 0] S1x2048x256.size inb_S4x2048x256_S1x2048x256_0_0_0) (fun _ => rfl)).squeeze S2048x256 squeezes_S1x2048x256_S2048x256 = slot 0 := slot_named _ _ 0 rfl
@[sl_canon] theorem drain_slot1 : (scratch.slice (Rect.unit (s := S4x2048x256) ![1, 0, 0] S1x2048x256.size inb_S4x2048x256_S1x2048x256_1_0_0) (fun _ => rfl)).squeeze S2048x256 squeezes_S1x2048x256_S2048x256 = slot 1 := slot_named _ _ 1 rfl
@[sl_canon] theorem drain_slot2 : (scratch.slice (Rect.unit (s := S4x2048x256) ![2, 0, 0] S1x2048x256.size inb_S4x2048x256_S1x2048x256_2_0_0) (fun _ => rfl)).squeeze S2048x256 squeezes_S1x2048x256_S2048x256 = slot 2 := slot_named _ _ 2 rfl
@[sl_canon] theorem drain_piece0 : (result.slice (Rect.unit (s := S32x2048x256) ![28, 0, 0] S1x2048x256.size inb_S32x2048x256_S1x2048x256_28_0_0) (fun _ => rfl)).squeeze S2048x256 squeezes_S1x2048x256_S2048x256 = piece 28 := piece_named _ _ 28 rfl
@[sl_canon] theorem drain_piece1 : (result.slice (Rect.unit (s := S32x2048x256) ![29, 0, 0] S1x2048x256.size inb_S32x2048x256_S1x2048x256_29_0_0) (fun _ => rfl)).squeeze S2048x256 squeezes_S1x2048x256_S2048x256 = piece 29 := piece_named _ _ 29 rfl
@[sl_canon] theorem drain_piece2 : (result.slice (Rect.unit (s := S32x2048x256) ![30, 0, 0] S1x2048x256.size inb_S32x2048x256_S1x2048x256_30_0_0) (fun _ => rfl)).squeeze S2048x256 squeezes_S1x2048x256_S2048x256 = piece 30 := piece_named _ _ 30 rfl

/-- At the last step slot 3 is the slot of the step, and block 31 is its block. -/
theorem last_names : ∀ t : Fin grid0.N, Drains (grid0.coords t) → (sl 4 t.val).val = 3 ∧ (bk 32 t.val).val = 31 := by decide +kernel
theorem drain_cell3 (h : Drains (grid0.coords t)) :
    (cc0_scratch1.slice (Rect.unit (s := S4) ![3] S1.size inb_S4_S1_3)).squeeze S_ squeezes_S1_S_ = cell (sl 4 t.val) :=
  cell_named _ _ _ (by rw [(last_names t h).1])
theorem drain_slot3 (h : Drains (grid0.coords t)) :
    (scratch.slice (Rect.unit (s := S4x2048x256) ![3, 0, 0] S1x2048x256.size inb_S4x2048x256_S1x2048x256_3_0_0) (fun _ => rfl)).squeeze S2048x256 squeezes_S1x2048x256_S2048x256 = slot (sl 4 t.val) :=
  slot_named _ _ _ (by rw [(last_names t h).1])
theorem drain_piece3 (h : Drains (grid0.coords t)) :
    (result.slice (Rect.unit (s := S32x2048x256) ![31, 0, 0] S1x2048x256.size inb_S32x2048x256_S1x2048x256_31_0_0) (fun _ => rfl)).squeeze S2048x256 squeezes_S1x2048x256_S2048x256 = piece (bk 32 t.val) :=
  piece_named _ _ _ (by rw [(last_names t h).2])

end Names

/-! ## What is held of them -/

section Held

variable (c : Dev nD)

/-- The contents a memref's buffer has. -/
abbrev Held {sp : Space} {S : Shape} {e : EltTy} (M : Memref sig .tc sp S e) : Type := Buf (Elt F) (M.view.loc (c : Thread nD τ))

/-- Slot `g`, at the contents `e`. -/
abbrev slotAt (g : Fin 4) (e : Held (F := F) c (slot g)) : sProp 𝕄 := (slot g).view.loc (c : Thread nD τ) ↦[(slot g).view.set]{fullShare} e
/-- Block `u`, at the contents `f`. -/
abbrev pieceAt (u : Fin 32) (f : Held (F := F) c (piece u)) : sProp 𝕄 := (piece u).view.loc (c : Thread nD τ) ↦[(piece u).view.set]{fullShare} f
/-- The semaphore of slot `g`, at zero. -/
abbrev cellZero (g : Fin 4) : sProp 𝕄 := semVal ((c : Thread nD τ), cellLoc g) 0
/-- The copy of slot `g` to block `u` under way: once waited it gives block `u` at the contents `f`, and the slot back. -/
abbrev copying (g : Fin 4) (u : Fin 32) (f : Held (F := F) c (piece u)) : sProp 𝕄 :=
  iprop(∃ e, Transfers.Flight countersEmb (c : Thread nD τ) (cellLoc g) default ((piece u).view.amount (cellLoc g)) iprop(pieceAt c u f ∗ slotAt c g e))

end Held

end Cert.KernelIdeal.Pool

end
-- ==== Proof.KernelIdealSteps.lean ====
/- The body of the kernel, run once.

   A step takes its blocks of `h` and `s` in the staging buffers and block `t` of the result. In the first four steps its
   slot is free; later the slot carries the copy of four steps before, which the step waits; the last step also waits
   the copies of the three other slots and its own. Each run says what the copy the step starts will deliver. -/
module

public import proofs.«01_k».proof.Proof.KernelIdealBuffers

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.Ring (sl bk)

variable {F : FTy → Type} [FloatOps F]

local notation "𝕄" => MT nD τ sig Unit (Elt F) ℕ (Pipeline.UD sig nD τ) ℕ

/-- The block a step computes from its block of `h` and its block of `s`, as a copy reads it. -/
def blockOut (x : Vec F S1x2048x256 .f32) (y : Vec F S1x2048x64 .f32) : Vec F S2048x256 .f32 :=
  shapeCast S2048x256 (k0_pay1 y x) shapeCasts_S1x2048x256_S2048x256

/-- A block stored at slot `g`, read back as a copy of the slot reads it. -/
theorem read_stored (c : Dev nD) (g : Fin 4) (o : Fin 3 → Nat) (h : ∀ a, o a + S1x2048x256.size a ≤ S4x2048x256.size a)
    (ho : o = ![g.val, 0, 0]) (e : Held (F := F) c (slot g)) (w : Vec F S1x2048x256 .f32) :
    (slot g).view.read (Elt F) (View.write (Elt F) (scratch.access (Rect.unit o S1x2048x256.size h)) e w Finset.univ)
      = shapeCast S2048x256 w shapeCasts_S1x2048x256_S2048x256 := by
  subst ho
  have := View.read_write_univ (Val := Elt F) (v := scratch.access (Rect.unit ![g.val, 0, 0] S1x2048x256.size h)) e w
  funext j
  exact congrFun this (Shape.reshapeEquiv shapeCasts_S1x2048x256_S2048x256 j)

/-- A whole staging buffer read whole gives its contents. -/
theorem read_block {S : Shape} (arg : Memref sig .tc .vmem S .f32) (harg : arg.IsWhole) (o : Fin S.rank → Nat) (h : ∀ a, o a + S.size a ≤ S.size a)
    (x : Vec F S .f32) : View.readAt (Elt F) arg.view (Rect.unit o S.size h).toLoadRect (harg.unread x) = x := by
  funext j
  refine Eq.trans ?_ (congrFun (harg.read_unread x) j)
  exact congrArg (View.read (Elt F) arg.view (harg.unread x)) (funext fun a => Fin.ext (by
    show o a + 1 * (j a).val = (j a).val
    have := h a; omega))

set_option maxHeartbeats 1000000 in
/-- A step among the first four: its slot is free, and leaves carrying the step's block. -/
theorem step_first (c : Dev nD) (t : Fin cfg0.N) (arg1 : Memref sig .tc .vmem S1x2048x256 .f32) (harg1 : arg1.IsWhole)
    (arg2 : Memref sig .tc .vmem S1x2048x64 .f32) (harg2 : arg2.IsWhole) (hw : ¬Waits4 (grid0.coords t)) (hd : ¬Drains (grid0.coords t))
    (x : Vec F S1x2048x256 .f32) (y : Vec F S1x2048x64 .f32) (W : Waits sig Unit) (K : PUnit → sProp 𝕄) :
    iprop(owns (c : Thread nD τ) arg1 fullShare x ∗ owns (c : Thread nD τ) arg2 fullShare y ∗ (∃ f, pieceAt c (bk 32 t.val) f)
        ∗ cellZero c (sl 4 t.val) ∗ (∃ e, slotAt c (sl 4 t.val) e) ∗ owes (c : Thread nD τ) 0 W
        ∗ (iprop(owns (c : Thread nD τ) arg1 fullShare x ∗ owns (c : Thread nD τ) arg2 fullShare y
            ∗ (∃ f, ⌜(piece (bk 32 t.val)).view.read (Elt F) f = blockOut x y⌝ ∗ copying c (sl 4 t.val) (bk 32 t.val) f)
            ∗ ∃ W', owes (c : Thread nD τ) 0 W') -∗ K ⟨⟩))
      ⊢ wp frame (wpE (defs₀ (F := F)) Variants.none c none) Set.univ
          (cc0_body (grid0.coords t) arg1 harg1 arg2 harg2 (Memref.whole main_v0) (Memref.isWhole_whole _) scratch (Memref.isWhole_whole _) cc0_scratch1) K := by
  haveI : Fact (¬Waits4 (grid0.coords t)) := ⟨hw⟩
  haveI : Fact (¬Drains (grid0.coords t)) := ⟨hd⟩
  simp only [cc0_body_eq_skeleton]; unfold cc0_body_skel
  simp only [k0_part1_eq_skeleton]
  unfold owns
  iintro ⟨⟨%f0, %hf0, H0⟩, ⟨%f1, %hf1, H1⟩, ⟨%fp, Hp⟩, Hq, ⟨%e, Ht⟩, HW, Hk⟩
  obtain rfl := harg1.eq_unread hf0; obtain rfl := harg2.eq_unread hf1
  sl_exec (disch := first | sl_exact hw | sl_exact hd)
  sl_step
  iapply Hk
  isplitl [H0]
  · iexists _; isplitr; · ipureintro; exact harg1.read_unread _
    iexact H0
  isplitl [H1]
  · iexists _; isplitr; · ipureintro; exact harg2.read_unread _
    iexact H1
  isplitl [Hq]
  · iexists _; isplitr
    rotate_left
    · iexists _; iexact Hq
    ipureintro
    rw [View.read_writes_whole]
    unfold step_first.sl.dma4 step_first.sl.Ht_w1
    rw [read_block arg1 harg1, read_block arg2 harg2]
    exact read_stored c _ _ _ (off4 t) _ _
  iexists _; iexact HW

set_option maxHeartbeats 1000000 in
/-- A step from the fifth to the last but one: it waits the copy its slot carries, which delivers the block of four steps
    before, and the slot leaves carrying the step's own. -/
theorem step_later (c : Dev nD) (t : Fin cfg0.N) (arg1 : Memref sig .tc .vmem S1x2048x256 .f32) (harg1 : arg1.IsWhole)
    (arg2 : Memref sig .tc .vmem S1x2048x64 .f32) (harg2 : arg2.IsWhole) (hw : Waits4 (grid0.coords t)) (hd : ¬Drains (grid0.coords t))
    (x : Vec F S1x2048x256 .f32) (y : Vec F S1x2048x64 .f32) (fo : Held (F := F) c (piece (bk 32 (t.val - 4)))) (W : Waits sig Unit) (K : PUnit → sProp 𝕄) :
    iprop(owns (c : Thread nD τ) arg1 fullShare x ∗ owns (c : Thread nD τ) arg2 fullShare y ∗ (∃ f, pieceAt c (bk 32 t.val) f)
        ∗ copying c (sl 4 t.val) (bk 32 (t.val - 4)) fo ∗ owes (c : Thread nD τ) 0 W
        ∗ (iprop(owns (c : Thread nD τ) arg1 fullShare x ∗ owns (c : Thread nD τ) arg2 fullShare y
            ∗ pieceAt c (bk 32 (t.val - 4)) fo
            ∗ (∃ f, ⌜(piece (bk 32 t.val)).view.read (Elt F) f = blockOut x y⌝ ∗ copying c (sl 4 t.val) (bk 32 t.val) f)
            ∗ ∃ W', owes (c : Thread nD τ) 0 W') -∗ K ⟨⟩))
      ⊢ wp frame (wpE (defs₀ (F := F)) Variants.none c none) Set.univ
          (cc0_body (grid0.coords t) arg1 harg1 arg2 harg2 (Memref.whole main_v0) (Memref.isWhole_whole _) scratch (Memref.isWhole_whole _) cc0_scratch1) K := by
  haveI : Fact (Waits4 (grid0.coords t)) := ⟨hw⟩
  haveI : Fact (¬Drains (grid0.coords t)) := ⟨hd⟩
  simp only [cc0_body_eq_skeleton]; unfold cc0_body_skel
  simp only [k0_part1_eq_skeleton]
  unfold owns
  iintro ⟨⟨%f0, %hf0, H0⟩, ⟨%f1, %hf1, H1⟩, ⟨%fp, Hp⟩, ⟨%e, Ht⟩, HW, Hk⟩
  obtain rfl := harg1.eq_unread hf0; obtain rfl := harg2.eq_unread hf1
  sl_exec (disch := first | sl_exact hw | sl_exact hd)
  sl_step
  iapply Hk
  isplitl [H0]
  · iexists _; isplitr; · ipureintro; exact harg1.read_unread _
    iexact H0
  isplitl [H1]
  · iexists _; isplitr; · ipureintro; exact harg2.read_unread _
    iexact H1
  isplitl [Ht_dst]; · iexact Ht_dst
  isplitl [Ht]
  · iexists _; isplitr
    rotate_left
    · iexists _; iexact Ht
    ipureintro
    rw [View.read_writes_whole]
    unfold step_later.sl.dma4 step_later.sl.Ht_src_w1
    rw [read_block arg1 harg1, read_block arg2 harg2]
    exact read_stored c _ _ _ (off4 t) _ _
  iexists _; iexact HW

set_option maxHeartbeats 1000000 in
/-- The last step: it waits the copy its slot carries, starts its own, and waits the four slots. -/
theorem step_last (c : Dev nD) (t : Fin cfg0.N) (arg1 : Memref sig .tc .vmem S1x2048x256 .f32) (harg1 : arg1.IsWhole)
    (arg2 : Memref sig .tc .vmem S1x2048x64 .f32) (harg2 : arg2.IsWhole) (hw : Waits4 (grid0.coords t)) (hd : Drains (grid0.coords t))
    (x : Vec F S1x2048x256 .f32) (y : Vec F S1x2048x64 .f32) (fo : Held (F := F) c (piece (bk 32 (t.val - 4))))
    (g0 : Held (F := F) c (piece 28)) (g1 : Held (F := F) c (piece 29)) (g2 : Held (F := F) c (piece 30)) (W : Waits sig Unit) (K : PUnit → sProp 𝕄) :
    iprop(owns (c : Thread nD τ) arg1 fullShare x ∗ owns (c : Thread nD τ) arg2 fullShare y ∗ (∃ f, pieceAt c (bk 32 t.val) f)
        ∗ copying c (sl 4 t.val) (bk 32 (t.val - 4)) fo ∗ copying c 0 28 g0 ∗ copying c 1 29 g1 ∗ copying c 2 30 g2 ∗ owes (c : Thread nD τ) 0 W
        ∗ (iprop(owns (c : Thread nD τ) arg1 fullShare x ∗ owns (c : Thread nD τ) arg2 fullShare y
            ∗ pieceAt c (bk 32 (t.val - 4)) fo
            ∗ (∃ f, ⌜(piece (bk 32 t.val)).view.read (Elt F) f = blockOut x y⌝ ∗ pieceAt c (bk 32 t.val) f)
            ∗ pieceAt c 28 g0 ∗ pieceAt c 29 g1 ∗ pieceAt c 30 g2
            ∗ (cellZero c (sl 4 t.val) ∗ ∃ e, slotAt c (sl 4 t.val) e) ∗ (cellZero c 0 ∗ ∃ e, slotAt c 0 e)
            ∗ (cellZero c 1 ∗ ∃ e, slotAt c 1 e) ∗ (cellZero c 2 ∗ ∃ e, slotAt c 2 e)
            ∗ ∃ W', owes (c : Thread nD τ) 0 W') -∗ K ⟨⟩))
      ⊢ wp frame (wpE (defs₀ (F := F)) Variants.none c none) Set.univ
          (cc0_body (grid0.coords t) arg1 harg1 arg2 harg2 (Memref.whole main_v0) (Memref.isWhole_whole _) scratch (Memref.isWhole_whole _) cc0_scratch1) K := by
  haveI : Fact (Waits4 (grid0.coords t)) := ⟨hw⟩
  haveI : Fact (Drains (grid0.coords t)) := ⟨hd⟩
  simp only [cc0_body_eq_skeleton]; unfold cc0_body_skel
  simp only [k0_part1_eq_skeleton, drain_cell3 t hd, drain_slot3 t hd, drain_piece3 t hd]
  unfold owns
  iintro ⟨⟨%f0, %hf0, H0⟩, ⟨%f1, %hf1, H1⟩, ⟨%fp, Hp⟩, ⟨%e, Ht⟩, ⟨%e0, Hs0⟩, ⟨%e1, Hs1⟩, ⟨%e2, Hs2⟩, HW, Hk⟩
  obtain rfl := harg1.eq_unread hf0; obtain rfl := harg2.eq_unread hf1
  sl_exec (disch := first | sl_exact hw | sl_exact hd)
  sl_step
  iapply Hk
  isplitl [H0]
  · iexists _; isplitr; · ipureintro; exact harg1.read_unread _
    iexact H0
  isplitl [H1]
  · iexists _; isplitr; · ipureintro; exact harg2.read_unread _
    iexact H1
  isplitl [Ht_dst]; · iexact Ht_dst
  isplitl [Hp]
  · iexists _; isplitr
    rotate_left
    · iexact Hp
    ipureintro
    rw [View.read_writes_whole]
    unfold step_last.sl.dma4 step_last.sl.Ht_src_w1
    rw [read_block arg1 harg1, read_block arg2 harg2]
    exact read_stored c _ _ _ (off4 t) _ _
  isplitl [Hs0_dst]; · iexact Hs0_dst
  isplitl [Hs1_dst]; · iexact Hs1_dst
  isplitl [Hs2_dst]; · iexact Hs2_dst
  isplitl [Ht Ht_src]
  · isplitl [Ht]; · iexact Ht
    iexists _; iexact Ht_src
  isplitl [Hs0 Hs0_src]
  · isplitl [Hs0]; · iexact Hs0
    iexists _; iexact Hs0_src
  isplitl [Hs1 Hs1_src]
  · isplitl [Hs1]; · iexact Hs1
    iexists _; iexact Hs1_src
  isplitl [Hs2 Hs2_src]
  · isplitl [Hs2]; · iexact Hs2
    iexists _; iexact Hs2_src
  iexists _; iexact HW

end Cert.KernelIdeal.Pool

end
-- ==== Proof.KernelIdealRing.lean ====
/- The ring the kernel writes its result through, before each step.

   Before step `t` the blocks ahead (`t`, `t + 1`, …) are held at whatever the result held, the blocks behind hold what
   the kernel computes for them, and the last four blocks are under way from the four slots (in the first four steps,
   some slots are free instead). The four slots make up the scratch and the thirty-two blocks make up the result, so the
   ring is built from the two buffers at the launch and gives them back at the end, the result at its computed value. -/
module

public import proofs.«01_k».proof.Proof.KernelIdealSteps
public import Idealize.ShloMosaic.Lib.Pointwise

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.Ring (sl bk)

variable {F : FTy → Type} [FloatOps F]

local notation "𝕄" => MT nD τ sig Unit (Elt F) ℕ (Pipeline.UD sig nD τ) ℕ

/-! ## The result -/

section Result

variable (m : (ℓ : Loc nD τ sig) → Buf (Elt F) ℓ) (c : Dev nD)

/-- The step that computes block `u`. -/
abbrev stepOf (u : Fin 32) : Fin cfg0.N := Fin.cast N_0.symm u

/-- What the kernel leaves in its result: block `u` is computed from block `u` of `h` and block `u` of `s`. -/
def computed : Buf (Elt F) ((c : Thread nD τ).loc main_v0) := fun j : S32x2048x256.Idx =>
  k0_pay1 (iblk m c 1 (stepOf (j 0))) (iblk m c 0 (stepOf (j 0))) (ix3 (0 : Fin 1) (j 1 : Fin 2048) (j 2 : Fin 256))

/-- The element of a one-block array that element `(r, l)` of the block is. -/
theorem block_at (h : S2048x256.numel = S1x2048x256.numel) (r : Fin 2048) (l : Fin 256) :
    Shape.reshapeEquiv h (ix2 r l : S2048x256.Idx) = (ix3 (0 : Fin 1) r l : S1x2048x256.Idx) := by pointwise

/-- The position of the result that element `(r, l)` of block `u` is. -/
theorem piece_at (u : Fin 32) (r : Fin 2048) (l : Fin 256) : (piece u).view.emb (ix2 r l : S2048x256.Idx) = (ix3 u r l : S32x2048x256.Idx) := by
  show (Rect.unit (s := S32x2048x256) ![u.val, 0, 0] S1x2048x256.size (piece_inb u)).emb (Shape.reshapeEquiv squeezes_S1x2048x256_S2048x256.numel_eq (ix2 r l)) = _
  rw [block_at]
  funext a
  apply Fin.ext
  match a with
  | ⟨0, _⟩ => show u.val + 1 * 0 = u.val; omega
  | ⟨1, _⟩ => show 0 + 1 * r.val = r.val; omega
  | ⟨2, _⟩ => show 0 + 1 * l.val = l.val; omega

/-- Block `u` of that value is what step `u` computes. -/
theorem read_computed (u : Fin 32) :
    (piece u).view.read (Elt F) (computed m c) = blockOut (iblk m c 0 (stepOf u)) (iblk m c 1 (stepOf u)) := by
  funext j
  obtain ⟨r, l, rfl⟩ : ∃ (r : Fin 2048) (l : Fin 256), j = ix2 r l := ⟨j 0, j 1, eq_ix2 (n0 := 2048) (n1 := 256) j⟩
  show computed m c ((piece u).view.emb (ix2 r l))
    = k0_pay1 _ _ (Shape.reshapeEquiv shapeCasts_S1x2048x256_S2048x256 (ix2 r l))
  rw [piece_at, block_at]
  rfl

end Result

/-! ## Cutting the two buffers -/

section Cuts

variable (c : Dev nD)

/-- The elements of slot `g`, and of block `u`. -/
def slotSet (g : Fin 4) : Finset (Idx ((c : Thread nD τ).loc cc0_scratch0)) := (Rect.unit (s := S4x2048x256) ![g.val, 0, 0] S1x2048x256.size (slot_inb g)).set
def pieceSet (u : Fin 32) : Finset (Idx ((c : Thread nD τ).loc main_v0)) := (Rect.unit (s := S32x2048x256) ![u.val, 0, 0] S1x2048x256.size (piece_inb u)).set

theorem slot_set (g : Fin 4) : (slot g).view.set = slotSet c g := by
  simp only [slot, Memref.view_squeeze, View.set_reshape]; exact View.set_slice_whole _ _
theorem piece_set (u : Fin 32) : (piece u).view.set = pieceSet c u := by
  simp only [piece, Memref.view_squeeze, View.set_reshape]; exact View.set_slice_whole _ _

theorem slotAt_eq (g : Fin 4) (e : Held (F := F) c (slot g)) : slotAt c g e = (((c : Thread nD τ).loc cc0_scratch0) ↦[slotSet c g]{fullShare} e : sProp 𝕄) := by
  unfold slotAt; rw [slot_set c]; rfl
theorem pieceAt_eq (u : Fin 32) (f : Held (F := F) c (piece u)) : pieceAt c u f = (((c : Thread nD τ).loc main_v0) ↦[pieceSet c u]{fullShare} f : sProp 𝕄) := by
  unfold pieceAt; rw [piece_set c]; rfl

/-- An axis of a three-dimensional array other than the first is not cut. -/
theorem uncut (n : ℕ) : ∀ a : Fin 3, a ≠ 0 → (![n, 0, 0] : Fin 3 → ℕ) a = 0 := by intro a ha; fin_cases a <;> simp_all
theorem uncut_size : ∀ a : Fin 3, a ≠ 0 → S1x2048x256.size a = S4x2048x256.size a ∧ S1x2048x256.size a = S32x2048x256.size a := by decide

theorem slots_disjoint : ∀ g g' : Fin 4, g ≠ g' → Disjoint (slotSet c g) (slotSet c g') := fun g g' h => by
  exact Ring.lead_disjoint (s := S4x2048x256) 0 1 (fun g : Fin 4 => ![g.val, 0, 0]) S1x2048x256.size slot_inb (fun g => by simp) rfl g g' h
theorem slots_cover : Finset.univ.biUnion (fun g => slotSet c g) = Finset.univ := by
  exact Ring.lead_cover (s := S4x2048x256) 0 1 (fun g : Fin 4 => ![g.val, 0, 0]) S1x2048x256.size slot_inb (fun g => by simp) (fun g => uncut g.val) rfl
    (fun a h => (uncut_size a h).1) rfl
theorem pieces_disjoint : ∀ u u' : Fin 32, u ≠ u' → Disjoint (pieceSet c u) (pieceSet c u') := fun u u' h => by
  exact Ring.lead_disjoint (s := S32x2048x256) 0 1 (fun u : Fin 32 => ![u.val, 0, 0]) S1x2048x256.size piece_inb (fun u => by simp) rfl u u' h
theorem pieces_cover : Finset.univ.biUnion (fun u => pieceSet c u) = Finset.univ := by
  exact Ring.lead_cover (s := S32x2048x256) 0 1 (fun u : Fin 32 => ![u.val, 0, 0]) S1x2048x256.size piece_inb (fun u => by simp) (fun u => uncut u.val) rfl
    (fun a h => (uncut_size a h).2) rfl

/-- The result held whole is its blocks held. -/
theorem result_cut (f : Buf (Elt F) ((c : Thread nD τ).loc main_v0)) :
    (((c : Thread nD τ).loc main_v0) ↦{fullShare} f : sProp 𝕄) = bigSep Finset.univ fun u => pieceAt c u f := by
  refine (Ring.pointsTo_blocks (U := Pipeline.UD sig nD τ) (ℓ := (c : Thread nD τ).loc main_v0) (q := fullShare) (pieceSet c) (pieces_disjoint c) (pieces_cover c) f).trans ?_
  exact BI.bigSep_congr fun u _ => (pieceAt_eq c u f).symm
/-- The scratch held whole, at anything, is its slots held; -/
theorem scratch_cut : (iprop(∃ f, ((c : Thread nD τ).loc cc0_scratch0) ↦{fullShare} f) : sProp 𝕄) ⊢ bigSep Finset.univ fun g => iprop(∃ e, slotAt c g e) :=
  Ring.pieces_split (U := Pipeline.UD sig nD τ) (ℓ := (c : Thread nD τ).loc cc0_scratch0) (q := fullShare) (slotSet c) (slots_disjoint c) (slots_cover c)
    (fun g e => slotAt c g e) (slotAt_eq c)
/-- and the slots held give the scratch back. -/
theorem scratch_joined : (bigSep Finset.univ fun g => iprop(∃ e, slotAt c g e) : sProp 𝕄) ⊢ iprop(∃ f, ((c : Thread nD τ).loc cc0_scratch0) ↦{fullShare} f) :=
  Ring.pieces_join (U := Pipeline.UD sig nD τ) (ℓ := (c : Thread nD τ).loc cc0_scratch0) (q := fullShare) (slotSet c) (slots_disjoint c) (slots_cover c)
    (fun g e => slotAt c g e) (slotAt_eq c) (fun _ => Classical.choice (Elt.nonempty (F := F) _))

/-- What is held of a block is only what the block reads. -/
theorem pieceAt_congr (u : Fin 32) (f g : Held (F := F) c (piece u)) (h : (piece u).view.read (Elt F) f = (piece u).view.read (Elt F) g) :
    (pieceAt c u f : sProp 𝕄) = pieceAt c u g :=
  pointsTo_congr fun i hi => by
    obtain ⟨j, -, rfl⟩ := Finset.mem_map.mp hi
    exact congrFun h j

end Cuts

/-! ## The ring -/

section TheRing

variable (m : (ℓ : Loc nD τ sig) → Buf (Elt F) ℓ) (c : Dev nD)

/-- Slot `g` with no copy under way. -/
abbrev idle (g : Fin 4) : sProp 𝕄 := iprop(cellZero c g ∗ ∃ e, slotAt c g e)
/-- Block `u` under way from slot `g`, with its computed value. -/
abbrev away (g : Fin 4) (u : Fin 32) : sProp 𝕄 := copying c g u (computed m c)
/-- Block `u` not yet written. -/
abbrev todo (u : Fin 32) : sProp 𝕄 := iprop(∃ f, pieceAt c u f)
/-- Block `u` written, with its computed value. -/
abbrev done (u : Fin 32) : sProp 𝕄 := pieceAt c u (computed m c)

/-- The ring before step `p`, and after the last. -/
def ring (p : ℕ) : sProp 𝕄 := Ring.AtBΦ 4 (idle c) (away m c) (todo c) (done m c) p

/-- The launch's scratch, semaphores and result are the ring before the first step. -/
theorem ring_start (f : Buf (Elt F) ((c : Thread nD τ).loc main_v0)) :
    iprop((∃ f, ((c : Thread nD τ).loc cc0_scratch0) ↦{fullShare} f) ∗ (bigSep Finset.univ fun g => cellZero c g)
      ∗ ((c : Thread nD τ).loc main_v0) ↦{fullShare} f) ⊢ ring m c 0 := by
  unfold ring
  rw [Ring.AtBΦ_lt _ _ _ _ _ 0 (by decide), Ring.AtB_zero]
  unfold Ring.AtB₀ idle
  rw [show (bigSep Finset.univ fun g => iprop(cellZero c g ∗ ∃ e, slotAt c g e) : sProp 𝕄)
      = iprop((bigSep Finset.univ fun g => cellZero c g) ∗ bigSep Finset.univ fun g => iprop(∃ e, slotAt c g e)) from BI.bigSep_sep _ _ _, result_cut]
  iintro ⟨Hs, Hc, Hr⟩
  isplitl [Hr]
  · iapply (show (bigSep Finset.univ fun u => pieceAt c u f : sProp 𝕄) ⊢ bigSep Finset.univ (todo c) from
      BI.bigSep_mono fun u _ => (show pieceAt c u f ⊢ todo c u from by unfold todo; iintro H; iexists f; iexact H))
    iexact Hr
  isplitl [Hc]; · iexact Hc
  iapply (scratch_cut c); iexact Hs

/-- After the last step the ring is the scratch, the semaphores at zero, and the result at its computed value. -/
theorem ring_end :
    ring m c 32 ⊢ iprop((∃ f, ((c : Thread nD τ).loc cc0_scratch0) ↦{fullShare} f) ∗ (bigSep Finset.univ fun g => cellZero c g)
      ∗ ((c : Thread nD τ).loc main_v0) ↦{fullShare} computed m c) := by
  unfold ring
  rw [Ring.AtBΦ_end _ _ _ _ _ 32 rfl]
  unfold Ring.AtBEnd idle
  rw [show (bigSep Finset.univ fun g => iprop(cellZero c g ∗ ∃ e, slotAt c g e) : sProp 𝕄)
      = iprop((bigSep Finset.univ fun g => cellZero c g) ∗ bigSep Finset.univ fun g => iprop(∃ e, slotAt c g e)) from BI.bigSep_sep _ _ _, result_cut]
  iintro ⟨Hr, Hc, Hs⟩
  isplitl [Hs]; · iapply (scratch_joined c); iexact Hs
  isplitl [Hc]; · iexact Hc
  iexact Hr

/-- A copy under way with contents that read as step `u`'s value carries the computed value. -/
theorem away_of (g : Fin 4) (u : Fin 32) :
    (iprop(∃ f, ⌜(piece u).view.read (Elt F) f = blockOut (iblk m c 0 (stepOf u)) (iblk m c 1 (stepOf u))⌝ ∗ copying c g u f) : sProp 𝕄) ⊢ away m c g u := by
  unfold away
  iintro ⟨%f, %hf, H⟩
  iapply (Entails.of_eq (show copying c g u f = copying c g u (computed m c) from by
    unfold copying; rw [pieceAt_congr c u f (computed m c) (hf.trans (read_computed m c u).symm)]))
  iexact H
/-- A block written with contents that read as step `u`'s value holds the computed value. -/
theorem done_of (u : Fin 32) :
    (iprop(∃ f, ⌜(piece u).view.read (Elt F) f = blockOut (iblk m c 0 (stepOf u)) (iblk m c 1 (stepOf u))⌝ ∗ pieceAt c u f) : sProp 𝕄) ⊢ done m c u := by
  unfold done
  iintro ⟨%f, %hf, H⟩
  iapply (Entails.of_eq (pieceAt_congr c u f (computed m c) (hf.trans (read_computed m c u).symm)))
  iexact H

end TheRing

end Cert.KernelIdeal.Pool

end
-- ==== Proof.KernelIdealBody.lean ====
/- The pipeline's proof data, and the body's triple at every step.

   The invariant is the ring before the step, beside the generator register; the staged blocks of `h` and `s` are left as
   they were fetched. -/
module

public import proofs.«01_k».proof.Proof.KernelIdealRing

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.Ring (sl bk)

variable {F : FTy → Type} [FloatOps F]

local notation "𝕄" => MT nD τ sig Unit (Elt F) ℕ (Pipeline.UD sig nD τ) ℕ

variable (m : (ℓ : Loc nD τ sig) → Buf (Elt F) ℓ)

/-! ## The ring, one step on -/

section Steps

variable (c : Dev nD)

/-- The slots the step leaves alone. -/
abbrev rest (p : ℕ) : sProp 𝕄 := Cert.Roles.others (idle c) (away m c) p
/-- The blocks after block `p`, not yet written. -/
abbrev later (p : ℕ) : sProp 𝕄 := bigSep (Ring.aheadSet (p + 1)) (todo c)
/-- The blocks written and waited before step `p`. -/
abbrev earlier (p : ℕ) : sProp 𝕄 := bigSep (Ring.behindSet (NB := 32) 4 p) (done m c)

/-- Before one of the first four steps the step's slot is idle. -/
theorem ring_first (p : ℕ) (h : p < 4) : ring m c p = iprop((todo c (bk 32 p) ∗ later c p) ∗ BI.emp ∗ idle c (sl 4 p) ∗ rest m c p) := by
  unfold ring
  rw [Ring.AtBΦ_lt _ _ _ _ _ p (by omega)]; unfold Ring.AtB
  rw [Cert.Roles.roles_here, Cert.Roles.role_free _ _ _ h, Cert.Roles.ahead_here _ _ (by omega), Cert.Roles.behind_none _ _ (by omega)]
/-- After it the slot carries the step's block. -/
theorem ring_first_next (p : ℕ) (h : p < 4) : ring m c (p + 1) = iprop(later c p ∗ BI.emp ∗ rest m c p ∗ away m c (sl 4 p) (bk 32 p)) := by
  unfold ring
  rw [Ring.AtBΦ_lt _ _ _ _ _ (p + 1) (by omega)]; unfold Ring.AtB
  rw [Cert.Roles.roles_next, Cert.Roles.behind_none _ _ (by omega)]
/-- Before a later step the step's slot carries the block of four steps before. -/
theorem ring_later (p : ℕ) (h : 4 ≤ p) (h' : p < 32) :
    ring m c p = iprop((todo c (bk 32 p) ∗ later c p) ∗ earlier m c p ∗ away m c (sl 4 p) (bk 32 (p - 4)) ∗ rest m c p) := by
  unfold ring
  rw [Ring.AtBΦ_lt _ _ _ _ _ p h']; unfold Ring.AtB
  rw [Cert.Roles.roles_here, Cert.Roles.role_infl _ _ _ h, Cert.Roles.ahead_here _ _ h']
/-- After it that block is written, and the slot carries the step's. -/
theorem ring_later_next (p : ℕ) (h : 4 ≤ p) (h' : p < 31) :
    ring m c (p + 1) = iprop(later c p ∗ (done m c (bk 32 (p - 4)) ∗ earlier m c p) ∗ rest m c p ∗ away m c (sl 4 p) (bk 32 p)) := by
  unfold ring
  rw [Ring.AtBΦ_lt _ _ _ _ _ (p + 1) (by omega)]; unfold Ring.AtB
  rw [Cert.Roles.roles_next, Cert.Roles.behind_next _ _ h (by omega)]
/-- Before the last step the three other slots carry blocks 28, 29 and 30. -/
theorem rest_last (p : ℕ) (h : p = 31) : rest m c p = iprop(away m c 0 28 ∗ away m c 1 29 ∗ away m c 2 30) := by
  subst h; exact Cert.Roles.others_infl _ _ 31 (by omega)
/-- After it every block is written and every slot idle. -/
theorem ring_last_next (p : ℕ) (h : p = 31) :
    ring m c (p + 1) = iprop((done m c (bk 32 p) ∗ done m c 30 ∗ done m c 29 ∗ done m c 28 ∗ done m c (bk 32 (p - 4)) ∗ earlier m c p)
      ∗ idle c (sl 4 p) ∗ idle c 0 ∗ idle c 1 ∗ idle c 2) := by
  unfold ring
  rw [Ring.AtBΦ_end _ _ _ _ _ (p + 1) (by omega)]; unfold Ring.AtBEnd
  rw [Cert.Roles.behind_all _ _ h, Cert.Roles.four_from_last _ _ h]
  subst h; rfl

end Steps

/-! ## The proof data -/

/-- The invariant before step `p`. -/
def inv (c : Dev nD) (p : ℕ) : sProp 𝕄 := iprop((∃ r, prngReg c r) ∗ ring m c p)

/-- The pipeline's proof data on core `c`: the arguments as launched, the staged blocks left as fetched, the invariant. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := inv m c t.val
  q _ := fullShare
  owed _ := 0

theorem dats_array (c : Dev nD) (w : Fin cfg0.W) : (dats m 0 c).A w = V m c (Pipeline.arrRef spec0 w) := by dsimp only [dats]
theorem inv_before (c : Dev nD) (t : Fin cfg0.N) : (dats m 0 c).Φ t.castSucc = inv m c t.val := by
  dsimp only [dats]; simp only [Fin.val_castSucc]
theorem inv_after (c : Dev nD) (t : Fin cfg0.N) : (dats m 0 c).Φ t.succ = inv m c (t.val + 1) := by
  dsimp only [dats]; simp only [Fin.val_succ]
theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]

/-- An input's staging buffer holds the step's block of it when the body runs. -/
theorem staged0 (c : Dev nD) (t : Fin cfg0.N) (d) : (dats m 0 c).before 0 t d = iblk m c 0 t :=
  ((dats m 0 c).before_in_eq_fetched 0 rfl (fun _ => rfl) (fun _ _ _ => rfl)
    (fun t => by rw [left0]; unfold Dat.blockOf iblk; rw [dats_array]) t d).trans (by unfold Dat.fetched Dat.blockOf iblk; rw [dats_array]; rfl)
theorem staged1 (c : Dev nD) (t : Fin cfg0.N) (d) : (dats m 0 c).before 1 t d = iblk m c 1 t :=
  ((dats m 0 c).before_in_eq_fetched 1 rfl (fun _ => rfl) (fun _ _ _ => rfl)
    (fun t => by rw [left1]; unfold Dat.blockOf iblk; rw [dats_array]) t d).trans (by unfold Dat.fetched Dat.blockOf iblk; rw [dats_array]; rfl)

/-! ## The body at a step -/

/-- The step whose block is `bk 32 t` is `t`. -/
theorem stepOf_bk (t : Fin cfg0.N) : stepOf (bk 32 t.val) = t := by
  have h : t.val < 32 := lt_of_lt_of_eq t.isLt N_0
  exact Fin.ext (Nat.mod_eq_of_lt h)

set_option maxHeartbeats 1600000 in
/-- The body at step `t` takes the invariant, the core's waits and the two staged blocks, and leaves the next invariant,
    the waits and the blocks. -/
theorem sound_body (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d)))
      ⊢ wp frame (wpE (defs₀ (F := F)) Variants.none c none) Set.univ (bodyAt0 t) (fun _ =>
        iprop((dats m 0 c).Φ t.succ ∗ (dats m 0 c).owesAt () t.succ
          ∗ owns (c : Thread nD τ) (win0_0.stage (cfg0.slots t 0)) fullShare ((dats m 0 c).after 0 t)
          ∗ owns (c : Thread nD τ) (win0_1.stage (cfg0.slots t 1)) fullShare ((dats m 0 c).after 1 t))) := by
  simp only [staged0, staged1]
  rw [left0, left1, inv_before, inv_after]
  unfold Dat.owesAt Pipeline.owesWithin
  rw [show (dats m 0 c).owed t.castSucc = 0 from rfl, show (dats m 0 c).owed t.succ = 0 from rfl]
  have hN : t.val < 32 := lt_of_lt_of_eq t.isLt N_0
  have away' := away_of m c (sl 4 t.val) (bk 32 t.val)
  have done' := done_of m c (bk 32 t.val)
  rw [stepOf_bk] at away' done'
  unfold inv
  by_cases hw : 4 ≤ t.val
  · by_cases hd : t.val = 31
    · rw [ring_later m c t.val hw hN, ring_last_next m c t.val hd, rest_last m c t.val hd]
      iintro ⟨⟨Hg, ⟨Hp, HA⟩, HB, HF, HF0, HF1, HF2⟩, ⟨%W, -, HW⟩, ⟨%d0, H0⟩, ⟨%d1, H1⟩⟩
      iapply (step_last c t _ _ _ _ ((waits_iff t).mpr hw) ((drains_iff t).mpr hd) (iblk m c 0 t) (iblk m c 1 t)
        (computed m c) (computed m c) (computed m c) (computed m c) W _)
      isplitl [H0]; · iexact H0
      isplitl [H1]; · iexact H1
      isplitl [Hp]; · iexact Hp
      isplitl [HF]; · iexact HF
      isplitl [HF0]; · iexact HF0
      isplitl [HF1]; · iexact HF1
      isplitl [HF2]; · iexact HF2
      isplitl [HW]; · iexact HW
      iintro ⟨H0, H1, HD, HP, HD0, HD1, HD2, HI, HI0, HI1, HI2, ⟨%W', HW'⟩⟩
      isplitr [HW' H0 H1]
      · isplitl [Hg]; · iexact Hg
        isplitr [HI HI0 HI1 HI2]
        · isplitl [HP]; · iapply done'; iexact HP
          isplitl [HD2]; · iexact HD2
          isplitl [HD1]; · iexact HD1
          isplitl [HD0]; · iexact HD0
          isplitl [HD]; · iexact HD
          iexact HB
        isplitl [HI]; · iexact HI
        isplitl [HI0]; · iexact HI0
        isplitl [HI1]; · iexact HI1
        iexact HI2
      isplitl [HW']
      · iexists W'; isplitr; · ipureintro; exact fun _ _ => Or.inl trivial
        iexact HW'
      isplitl [H0]; · iexact H0
      iexact H1
    · rw [ring_later m c t.val hw hN, ring_later_next m c t.val hw (by omega)]
      iintro ⟨⟨Hg, ⟨Hp, HA⟩, HB, HF, HR⟩, ⟨%W, -, HW⟩, ⟨%d0, H0⟩, ⟨%d1, H1⟩⟩
      iapply (step_later c t _ _ _ _ ((waits_iff t).mpr hw) (fun h => hd ((drains_iff t).mp h)) (iblk m c 0 t) (iblk m c 1 t) (computed m c) W _)
      isplitl [H0]; · iexact H0
      isplitl [H1]; · iexact H1
      isplitl [Hp]; · iexact Hp
      isplitl [HF]; · iexact HF
      isplitl [HW]; · iexact HW
      iintro ⟨H0, H1, HD, HP, ⟨%W', HW'⟩⟩
      isplitr [HW' H0 H1]
      · isplitl [Hg]; · iexact Hg
        isplitl [HA]; · iexact HA
        isplitl [HD HB]
        · isplitl [HD]; · iexact HD
          iexact HB
        isplitl [HR]; · iexact HR
        iapply away'; iexact HP
      isplitl [HW']
      · iexists W'; isplitr; · ipureintro; exact fun _ _ => Or.inl trivial
        iexact HW'
      isplitl [H0]; · iexact H0
      iexact H1
  · rw [ring_first m c t.val (by omega), ring_first_next m c t.val (by omega)]
    iintro ⟨⟨Hg, ⟨Hp, HA⟩, HB, ⟨Hq, Hs⟩, HR⟩, ⟨%W, -, HW⟩, ⟨%d0, H0⟩, ⟨%d1, H1⟩⟩
    iapply (step_first c t _ _ _ _ (fun h => hw ((waits_iff t).mp h)) (fun h => by have := (drains_iff t).mp h; omega) (iblk m c 0 t) (iblk m c 1 t) W _)
    isplitl [H0]; · iexact H0
    isplitl [H1]; · iexact H1
    isplitl [Hp]; · iexact Hp
    isplitl [Hq]; · iexact Hq
    isplitl [Hs]; · iexact Hs
    isplitl [HW]; · iexact HW
    iintro ⟨H0, H1, HP, ⟨%W', HW'⟩⟩
    isplitr [HW' H0 H1]
    · isplitl [Hg]; · iexact Hg
      isplitl [HA]; · iexact HA
      isplitl [HB]; · iexact HB
      isplitl [HR]; · iexact HR
      iapply away'; iexact HP
    isplitl [HW']
    · iexists W'; isplitr; · ipureintro; exact fun _ _ => Or.inl trivial
      iexact HW'
    isplitl [H0]; · iexact H0
    iexact H1

/-- The body's row of the table is the body at the step. -/
theorem body_row (t : Fin cfg0.N) : defs₀ (F := F) .tc cfg0.body (cfg0.bodyArgs t (cfg0.slots t)) = bodyAt0 t := by
  unfold defs₀; rw [Defs.onTc_tc]

/-- What the pipeline asks of the body, at every step. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

end Cert.KernelIdeal.Pool

end
-- ==== Proof.KernelIdealRun.lean ====
/- The kernel's run: it ends with the arguments unchanged, every semaphore at zero, and the result at its computed value. -/
module

public import proofs.«01_k».proof.Proof.KernelIdealBody
public import Idealize.ShloMosaic.Lib.Claim

@[expose] public section

set_option maxRecDepth 16384

noncomputable section

namespace Cert.KernelIdeal.Pool

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own transfers read no buffer of the device's memory, … -/
def readByHand : Finset (Ref sig .tc) := {}
/-- … and write one, the result. -/
def writtenByHand : Finset (Ref sig .tc) := {main_v0}
theorem readByHand_sub : readByHand ⊆ Pipeline.restRefs sig spec0 := by decide
theorem writtenByHand_sub : writtenByHand ⊆ Pipeline.restRefs sig spec0 \ readByHand := by decide

/-- The device's buffers after the run: as before it, but the result. -/
def final (c : Dev nD) (b : Ref sig .tc) : Buf (Elt F) ((c : Thread nD τ).loc b) :=
  if h : b = main_v0 then h ▸ computed m c else V m c b
theorem final_result (c : Dev nD) : final m c main_v0 = computed m c := by unfold final; rw [dif_pos rfl]

/-- What the launch hands over and takes back, listed: the scratch, the generator register, the four semaphores at zero,
    and the result. -/
theorem handed (G : (c : Dev nD) → (b : Ref sig .tc) → Buf (Elt F) ((c : Thread nD τ).loc b)) (c : Dev nD) :
    (Pipeline.ΦDRG own spec0 readByHand writtenByHand (V m) G c : sProp 𝕄)
      = iprop((∃ f : Buf (Elt F) ((c : Thread nD τ).loc cc0_scratch0), ((c : Thread nD τ).loc cc0_scratch0) ↦{fullShare} f) ∗ (∃ r, prngReg c r)
        ∗ (bigSep Finset.univ fun g => cellZero c g) ∗ BI.emp ∗ ((c : Thread nD τ).loc main_v0) ↦{fullShare} G c main_v0) := by
  rw [Pipeline.ΦDRG_eq, scopedRest0_eq]
  have hs : (Pipeline.ownSems0 (Ix := Unit) (Name := ℕ) (U := Pipeline.UD sig nD τ) (Lvl := ℕ) (Val := Elt F) (τ := τ) own c : sProp 𝕄)
      = bigSep Finset.univ fun g => cellZero c g := by
    unfold Pipeline.ownSems0
    exact BI.bigSep_congr fun g _ => by rw [← cellLoc_eq g]
  have hr : (Pipeline.routed writtenByHand c (G c) : sProp 𝕄) = ((c : Thread nD τ).loc main_v0) ↦{fullShare} G c main_v0 := by
    unfold Pipeline.routed writtenByHand
    exact BI.bigSep_singleton
  have he : (bigSep readByHand fun b => ((c : Thread nD τ).loc b) ↦{fullShare} V m c b : sProp 𝕄) = BI.emp := by
    unfold readByHand; exact BI.bigSep_empty
  rw [hs, hr, he]

/-- What the launch hands over is the invariant before the first step, … -/
theorem enters (c : Dev nD) : Pipeline.ΦDRG own spec0 readByHand writtenByHand (V m) (V m) c ⊢ (dats m 0 c).Φ 0 := by
  rw [handed, show (dats m 0 c).Φ 0 = inv m c 0 from rfl]
  unfold inv
  iintro ⟨Hs, Hg, Hc, -, Hr⟩
  isplitl [Hg]; · iexact Hg
  iapply (ring_start m c (V m c main_v0))
  isplitl [Hs]; · iexact Hs
  isplitl [Hc]; · iexact Hc
  iexact Hr

/-- … and the invariant after the last is what it takes back. -/
theorem leaves (c : Dev nD) : (dats m 0 c).Φ (Fin.last cfg0.N) ⊢ Pipeline.ΦDRG own spec0 readByHand writtenByHand (V m) (final m) c := by
  rw [handed, final_result, show (dats m 0 c).Φ (Fin.last cfg0.N) = inv m c grid0.N from rfl, N_0]
  unfold inv
  iintro ⟨Hg, HR⟩
  ihave HE := (ring_end m c) $$ HR
  icases HE with ⟨Hs, Hc, Hr⟩
  isplitl [Hs]; · iexact Hs
  isplitl [Hg]; · iexact Hg
  isplitl [Hc]; · iexact Hc
  isplitr; · iempintro
  iexact Hr

set_option maxHeartbeats 800000 in
/-- The program is the launch of its one pipeline. -/
theorem is_launch : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- The run, as the pipeline's library states it. -/
theorem run_launch : θ_run defs (onTc (τ := τ) (main (F := F))) (s₀ m ρ)
    (fun r => Pipeline.FramePostRG cfgs (dats m) 0 writtenByHand (V m) (final m) r ∧ r.2.sem = fun _ => 0) :=
  Pipeline.θ_run_frame_dmaRG (Q' := _) cfgs (dats m) (0 : Fin 1) launch0 own defs₀ Variants.none own_facts readByHand writtenByHand
    readByHand_sub writtenByHand_sub m ρ main
    (hbody := fun c => (body_obligation m c).loose) (hshare := fun c => (dats m 0 c).share_full fun _ => rfl)
    (howed := fun _ _ => rfl) (V := V m) (hmain := is_launch m) (hA := dats_array m) (G := final m) (hin := enters m) (hout := leaves m)

/-- The kernel's run: each core's result ends at its computed value, its arguments unchanged, and every semaphore at zero. -/
theorem run : θ_run defs (onTc (τ := τ) (main (F := F))) ⟨m, fun _ => 0, ρ⟩ (fun r => (∀ c : Dev nD,
      r.2.mem ((c.tc : Thread nD τ).loc main_v0) = computed m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨(h.1.written c (Finset.mem_singleton_self _)).trans (final_result m c),
      ((h.1.toR c).1 0).trans (((dats m 0 c).arrAt_in 0 rfl _).trans (dats_array m c 0)),
      ((h.1.toR c).1 1).trans (((dats m 0 c).arrAt_in 1 rfl _).trans (dats_array m c 1))⟩, h.2⟩) (run_launch m ρ)

/-- What the frame claim asks: the arguments unchanged, and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run m ρ)

end Cert.KernelIdeal.Pool

end
-- ==== Proof.Softmax.lean ====
/- The mathematics of the problem on the extended reals, away from any program.

   A batch has scores `z t` and values `h t`. The weight of position `t` is `exp (z t - top)`, `top` being the largest
   score. The reference divides each weight by the weights' total and then sums weight times value; the kernel sums
   weight times value and divides the sum once. If `top` is a finite number, the total is a positive real, dividing by
   it is multiplying by a positive real, and that distributes over every sum of extended reals: the two agree,
   whatever the values `h t` are (infinities included). -/
module

public import Idealize.ShloMosaic.Lib.Pointwise

@[expose] public section

noncomputable section

namespace Cert.Softmax

open Idealize.ShloMosaic

variable {n : ℕ}

/-- The largest of `n` extended reals, −∞ if there is none. -/
def top (z : Fin n → EReal) : EReal := Finset.univ.fold max ⊥ z

/-- The weight of position `t` among the scores `z`, not yet divided by the total. -/
def weight (z : Fin n → EReal) (t : Fin n) : EReal := Ideal.exp (z t - top z)

/-- The total of the weights. -/
def total (z : Fin n → EReal) : EReal := ∑ t, weight z t

/-- The weighted mean with ONE division, of the sum. -/
def divideOnce (z h : Fin n → EReal) : EReal := Ideal.div (∑ t, weight z t * h t) (total z)

/-- The weighted mean with each weight divided by the total before it multiplies its value. -/
def divideEach (z h : Fin n → EReal) : EReal := ∑ t, Ideal.div (weight z t) (total z) * h t

/-- No score passes the largest. -/
theorem le_top (z : Fin n → EReal) (t : Fin n) : z t ≤ top z :=
  ((Finset.fold_max_le (s := Finset.univ) (f := z) (top z)).1 le_rfl).2 t (Finset.mem_univ t)

/-- A largest score above −∞ is one of the scores. -/
theorem exists_top (z : Fin n → EReal) (h : ⊥ < top z) : ∃ t, z t = top z := by
  obtain hb | ⟨t, -, ht⟩ := (Finset.le_fold_max (s := Finset.univ) (f := z) (b := ⊥) (top z)).1 le_rfl
  · exact absurd h (not_lt.2 hb)
  · exact ⟨t, le_antisymm (le_top z t) ht⟩

/-- A weight is a real number, not negative, where the largest score is finite. -/
theorem weight_real (z : Fin n → EReal) {M : ℝ} (hM : top z = M) (t : Fin n) : ∃ r : ℝ, 0 ≤ r ∧ weight z t = r := by
  have hle := le_top z t
  rw [hM] at hle
  unfold weight
  rw [hM]
  cases hz : z t with
  | bot => exact ⟨0, le_rfl, rfl⟩
  | top => rw [hz] at hle; exact absurd hle (not_le.2 (EReal.coe_lt_top M))
  | coe x => exact ⟨Real.exp (x - M), (Real.exp_pos _).le, by rw [← EReal.coe_sub]; rfl⟩

/-- The weight of a position that has the largest score is one. -/
theorem weight_top (z : Fin n → EReal) {M : ℝ} (hM : top z = M) {t : Fin n} (ht : z t = top z) : weight z t = 1 := by
  unfold weight
  rw [ht, hM, ← EReal.coe_sub, sub_self]
  show ((Real.exp 0 : ℝ) : EReal) = 1
  simp

/-- A sum of real numbers is the same on the extended reals. -/
theorem coe_sum (w : Fin n → ℝ) : ((∑ t, w t : ℝ) : EReal) = ∑ t, (w t : EReal) := by
  induction (Finset.univ : Finset (Fin n)) using Finset.induction_on with
  | empty => rfl
  | insert i s hi ih => rw [Finset.sum_insert hi, Finset.sum_insert hi, EReal.coe_add, ih]

/-- The total of the weights is a positive real where the largest score is finite. -/
theorem total_real (z : Fin n → EReal) {M : ℝ} (hM : top z = M) : ∃ S : ℝ, 0 < S ∧ total z = S := by
  choose w hw0 hw using weight_real z hM
  obtain ⟨t, ht⟩ := exists_top z (hM ▸ EReal.bot_lt_coe M)
  refine ⟨∑ t, w t, ?_, ?_⟩
  · have h1 : w t = 1 := by exact_mod_cast (hw t).symm.trans (weight_top z hM ht)
    exact Finset.sum_pos' (fun i _ => hw0 i) ⟨t, Finset.mem_univ t, by rw [h1]; exact one_pos⟩
  · rw [total, coe_sum]
    exact Finset.sum_congr rfl fun i _ => hw i

/-- A factor that is a real number and not negative comes out of a sum of extended reals, whatever the terms are. -/
theorem sum_mul_coe {a : ℝ} (ha : 0 ≤ a) (x : Fin n → EReal) : (∑ t, x t) * (a : EReal) = ∑ t, x t * (a : EReal) := by
  induction (Finset.univ : Finset (Fin n)) using Finset.induction_on with
  | empty => simp
  | insert i s hi ih =>
    rw [Finset.sum_insert hi, Finset.sum_insert hi, ← ih]
    exact EReal.right_distrib_of_nonneg_of_ne_top (by exact_mod_cast ha) (EReal.coe_ne_top a) _ _

/-- Where the largest score is finite, dividing the sum once and dividing each weight give the same value. -/
theorem divideOnce_eq_divideEach (z h : Fin n → EReal) {M : ℝ} (hM : top z = M) : divideOnce z h = divideEach z h := by
  obtain ⟨S, hS, hT⟩ := total_real z hM
  unfold divideOnce divideEach
  simp only [hT, Ideal.div_coe hS.ne']
  rw [sum_mul_coe (one_div_pos.2 hS).le]
  exact Finset.sum_congr rfl fun t _ => mul_right_comm _ _ _

/-! ## Why the largest score has to be finite -/

/-- Where the largest score is infinite, every weight is zero. -/
theorem weight_zero (z : Fin n → EReal) (hz : top z = ⊤ ∨ top z = ⊥) (t : Fin n) : weight z t = 0 := by
  have e : z t - top z = ⊥ := by
    obtain h | h := hz
    · rw [h, sub_eq_add_neg, EReal.neg_top, EReal.add_bot]
    · have hb : z t = ⊥ := le_bot_iff.1 (h ▸ le_top z t)
      rw [hb, EReal.bot_sub]
  unfold weight
  rw [e]
  rfl

/-- Scores whose largest is infinite always have values on which the two differ, the values that are all zero: dividing
    once gives zero by zero, which counts as −∞, and dividing each gives a sum of −∞ times zero, which is zero. So what
    the precondition asks of the scores cannot be weakened. -/
theorem differ_of_infinite (z : Fin n → EReal) (hz : top z = ⊤ ∨ top z = ⊥) :
    divideOnce z (fun _ => 0) ≠ divideEach z (fun _ => 0) := by
  simp [divideOnce, divideEach, total, weight_zero z hz, Ideal.div]

/-! ## The two infinite literals -/

/-- The literal both programs start their maxima from is −∞. -/
theorem lit_bot : Ideal.ofBits .f32 0xFF800000#32 = ⊥ := by simp [Ideal.ofBits, Ideal.ieee]

/-- The literal the precondition bounds the largest score by is +∞. -/
theorem lit_top : Ideal.ofBits .f32 0x7F800000#32 = ⊤ := by simp [Ideal.ofBits, Ideal.ieee]

end Cert.Softmax

end
-- ==== Proof.KernelIdealValue.lean ====
/- What the kernel's result holds, element by element: the weighted mean with one division, over the rows of its batch. -/
module

public import proofs.«01_k».proof.Proof.KernelIdealRing
public import proofs.«01_k».proof.Proof.Softmax
public import Idealize.ShloMosaic.Lib.Pipeline.ValueKit

@[expose] public section

set_option maxRecDepth 16384

noncomputable section

namespace Cert.KernelIdeal.Pool

open Idealize.ShloMosaic Idealize.ShloMosaic.TcCoe Idealize.SL.Sem
open Cert.KernelIdeal.Gen

/-- What one step computes from its block `s` of scores and its block `h` of values: at column `l`, in every row the
    same, the weighted mean of that column of `h`, the score of a row being the largest of its 64 entries of `s`. -/
theorem step_value (s : FVec Ideal S1x2048x64 .f32) (h : FVec Ideal S1x2048x256 .f32) (r : Fin 2048) (l : Fin 256) :
    k0_pay1 (F := Ideal) s h (ix3 (0 : Fin 1) r l)
      = Softmax.divideOnce (fun t : Fin 2048 => Softmax.top fun j : Fin 64 => s (ix3 (0 : Fin 1) t j))
          (fun t => h (ix3 (0 : Fin 1) t l)) := by
  pointwise [k0_pay1]
  simp only [Softmax.lit_bot]
  rfl

/-- Both inputs' blocks are taken at the step's own batch. -/
theorem block_index : ∀ t : Fin cfg0.N, win0_0.index t = ![t.val, 0, 0] ∧ win0_1.index t = ![t.val, 0, 0] :=
  (by decide +kernel : ∀ t : Fin grid0.N, _)

variable (m : (ℓ : Loc nD τ sig) → Buf (Elt Ideal) ℓ) (c : Dev nD)

/-- Step `u`'s block of `h` is batch `u` of `h`. -/
theorem values_at (u : Fin 32) (r : Fin 2048) (l : Fin 256) :
    iblk m c 0 (stepOf u) (ix3 (0 : Fin 1) r l) = m ((c : Thread nD τ).loc main_arg0) (ix3 u r l) := by
  have hu : (stepOf u).val = u.val := rfl
  blk_ext [iblk, V, block_index (stepOf u), hu]

/-- Step `u`'s block of `s` is batch `u` of `s`. -/
theorem scores_at (u : Fin 32) (r : Fin 2048) (j : Fin 64) :
    iblk m c 1 (stepOf u) (ix3 (0 : Fin 1) r j) = m ((c : Thread nD τ).loc main_arg1) (ix3 u r j) := by
  have hu : (stepOf u).val = u.val := rfl
  blk_ext [iblk, V, block_index (stepOf u), hu]

/-- The kernel's result at batch `u`, row `r` and column `l`. -/
theorem computed_at (u : Fin 32) (r : Fin 2048) (l : Fin 256) :
    computed m c (ix3 u r l : S32x2048x256.Idx)
      = Softmax.divideOnce
          (fun t : Fin 2048 => Softmax.top fun j : Fin 64 => m ((c : Thread nD τ).loc main_arg1) (ix3 u t j : S32x2048x64.Idx))
          (fun t => m ((c : Thread nD τ).loc main_arg0) (ix3 u t l : S32x2048x256.Idx)) := by
  refine (step_value (iblk m c 1 (stepOf u)) (iblk m c 0 (stepOf u)) r l).trans ?_
  exact congrArg₂ Softmax.divideOnce (funext fun t => congrArg Softmax.top (funext fun j => scores_at m c u t j))
    (funext fun t => values_at m c u t l)

end Cert.KernelIdeal.Pool

end
-- ==== Proof.ReferenceIdealValue.lean ====
/- The reference's run, and what its result holds element by element: the weighted mean with each weight divided first. -/
module

public import proofs.«01_k».proof.Proof.Gen.ReferenceIdeal.Run
public import proofs.«01_k».proof.Proof.Softmax
public import Idealize.ShloMosaic.Lib.Quiescent

@[expose] public section

set_option maxRecDepth 16384

noncomputable section

namespace Cert.ReferenceIdeal.Pool

open Idealize.ShloMosaic Idealize.ShloMosaic.TcCoe Idealize.SL.Sem
open Cert.ReferenceIdeal.Gen

/-- The score of every position: the largest of its 64 entries of `s`. -/
def scores (s : FVec Ideal S32x2048x64 .f32) : FVec Ideal S32x2048 .f32 :=
  Host.reduce FloatOps.maximumf s (constant S_ .f32 0xFF800000#32) reducesTo_S32x2048x64_S32x2048_d2 h_S_

/-- One number per batch, at every position of the batch. -/
def spread (v : FVec Ideal S32 .f32) : FVec Ideal S32x2048 .f32 :=
  broadcastInDim S32x2048 ![0, 1] bcast_S32x1_S32x2048_0_1 (broadcastInDim S32x1 ![0] bcast_S32_S32x1_0 v)

/-- The largest score of every batch. -/
def tops (z : FVec Ideal S32x2048 .f32) : FVec Ideal S32 .f32 :=
  maximumf (broadcastInDim S32 ![] bcast_S_S32 (constant S_ .f32 0xFF800000#32))
    (Host.reduce FloatOps.maximumf z (constant S_ .f32 0xFF800000#32) reducesTo_S32x2048_S32_d1 h_S_)

/-- The weights, not yet divided. -/
def weights (z : FVec Ideal S32x2048 .f32) : FVec Ideal S32x2048 .f32 := Host.exp (subf z (spread (tops z)))

/-- The weights divided by their batch's total. -/
def shares (e : FVec Ideal S32x2048 .f32) : FVec Ideal S32x2048 .f32 :=
  Host.divf e (spread (Host.reduceAdd e (constant S_ .f32 0x00000000#32) reducesTo_S32x2048_S32_d1 h_S_))

/-- The reference's result, of `h` and `s`. -/
def result (h : FVec Ideal S32x2048x256 .f32) (s : FVec Ideal S32x2048x64 .f32) : FVec Ideal S32x2048x256 .f32 :=
  broadcastInDim S32x2048x256 ![0, 1, 2] bcast_S32x1x256_S32x2048x256_0_1_2
    (broadcastInDim S32x1x256 ![0, 2] bcast_S32x256_S32x1x256_0_2
      (Host.dotGeneral dot_S32x2048_S32x2048x256_S32x256_1_1_n_2_0_0 none (shares (weights (scores s))) h))

/-- A weight of batch `b`, of the scores. -/
theorem weights_at (z : FVec Ideal S32x2048 .f32) (b : Fin 32) (t : Fin 2048) :
    weights z (ix2 b t) = Softmax.weight (fun t : Fin 2048 => z (ix2 b t)) t := by
  pointwise [weights, spread, tops]
  simp only [Softmax.lit_bot, bot_sup_eq]
  rfl

/-- A divided weight of batch `b`. -/
theorem shares_at (e : FVec Ideal S32x2048 .f32) (b : Fin 32) (t : Fin 2048) :
    shares e (ix2 b t) = Ideal.div (e (ix2 b t)) (∑ k : Fin 2048, e (ix2 b k)) := by
  pointwise [shares, spread]

/-- The score of position `t` of batch `b`. -/
theorem scores_at (s : FVec Ideal S32x2048x64 .f32) (b : Fin 32) (t : Fin 2048) :
    scores s (ix2 b t) = Softmax.top fun j : Fin 64 => s (ix3 b t j) := by
  pointwise [scores]
  simp only [Softmax.lit_bot]
  rfl

/-- The reference's result at batch `b`, row `r` and column `l`. -/
theorem result_at (h : FVec Ideal S32x2048x256 .f32) (s : FVec Ideal S32x2048x64 .f32) (b : Fin 32) (r : Fin 2048) (l : Fin 256) :
    result h s (ix3 b r l)
      = Softmax.divideEach (fun t : Fin 2048 => Softmax.top fun j : Fin 64 => s (ix3 b t j)) (fun t => h (ix3 b t l)) := by
  pointwise [result]
  simp only [shares_at, weights_at, scores_at]
  rfl

/-- The reference runs, its result ends as `result` of its arguments, and the arguments end unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v14)
          = result (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  Value.run m ρ

/-- The reference runs, leaves its arguments unchanged, and ends with every semaphore at zero: it declares none. -/
theorem frame_run (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (run m ρ)

end Cert.ReferenceIdeal.Pool

end
-- ==== Proof.TopScore.lean ====
/- The precondition, read: in every batch the largest score is a finite number. -/
module

public import proofs.«01_k».proof.Proof.Gen.Pre_top_score_is_finite
public import proofs.«01_k».proof.Proof.Softmax

@[expose] public section

set_option maxRecDepth 16384

noncomputable section

namespace Cert.Pre_top_score_is_finite.Pool

open Idealize.ShloMosaic Idealize.ShloMosaic.TcCoe
open Cert.Pre_top_score_is_finite.Gen

/-- Where the precondition's test passes, the largest score of batch `b` is a real number. -/
theorem top_real (h : FVec Ideal S32x2048x256 .f32) (s : FVec Ideal S32x2048x64 .f32)
    (hp : fn (F := Ideal) h s = fun _ => 1#1) (b : Fin 32) :
    ∃ M : ℝ, Softmax.top (fun t : Fin 2048 => Softmax.top fun j : Fin 64 => s (ix3 b t j)) = M := by
  have e : fn (F := Ideal) h s (ix1 b) = 1#1 := by rw [hp]
  pointwise [fn] at e
  simp only [Softmax.lit_bot, Softmax.lit_top] at e
  have both : ∀ (p q : Prop) [Decidable p] [Decidable q],
      IntOp.andi (BitVec.ofBool (decide p)) (BitVec.ofBool (decide q)) = 1#1 → p ∧ q := by
    intro p q _ _ hpq
    by_cases hp : p <;> by_cases hq : q <;> simp_all [IntOp.andi]
  obtain ⟨hb, ht⟩ := both _ _ e
  exact ⟨_, (EReal.coe_toReal ht.ne hb.ne').symm⟩

end Cert.Pre_top_score_is_finite.Pool

end
-- ==== Proof.lean ====
/- The certificate's claims, put together from the modules beside this one.

   The kernel's run (`KernelRun`, `KernelIdealRun`) ends with its result at a computed value; `KernelIdealValue` reads
   that value at one element, `ReferenceIdealValue` the reference's, and `Softmax` says that the two are one value where
   the largest score of the batch is a finite number, which `TopScore` takes from the precondition. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_top_score_is_finite
public import proofs.«01_k».proof.Proof.KernelRun
public import proofs.«01_k».proof.Proof.KernelIdealRun
public import proofs.«01_k».proof.Proof.KernelIdealValue
public import proofs.«01_k».proof.Proof.ReferenceIdealValue
public import proofs.«01_k».proof.Proof.TopScore
public import Idealize.ShloMosaic.Adequacy
public import Idealize.ShloMosaic.Init

@[expose] public section

noncomputable section

namespace Cert.Proof

open Idealize.ShloMosaic Idealize.SL.Sem

/-- What the kernel computes is what the reference computes, where the largest score of every batch is finite. -/
theorem computed_eq_result (m : (ℓ : Loc KernelIdeal.nD KernelIdeal.τ KernelIdeal.sig) → Buf (Elt Ideal) ℓ)
    (hp : Pre_KernelIdeal_top_score_is_finite m) (c : Dev KernelIdeal.nD) :
    KernelIdeal.Pool.computed m c
      = ReferenceIdeal.Pool.result (m ((c.tc : Thread KernelIdeal.nD KernelIdeal.τ).loc KernelIdeal.main_arg0))
          (m ((c.tc : Thread KernelIdeal.nD KernelIdeal.τ).loc KernelIdeal.main_arg1)) := by
  funext j
  obtain ⟨b, r, l, rfl⟩ : ∃ (b : Fin 32) (r : Fin 2048) (l : Fin 256), j = ix3 b r l :=
    ⟨j 0, j 1, j 2, eq_ix3 (n0 := 32) (n1 := 2048) (n2 := 256) j⟩
  obtain ⟨M, hM⟩ := Pre_top_score_is_finite.Pool.top_real _ _ (hp c) b
  refine (KernelIdeal.Pool.computed_at m c b r l).trans ?_
  refine (Softmax.divideOnce_eq_divideEach _ _ hM).trans ?_
  exact (ReferenceIdeal.Pool.result_at _ _ b r l).symm

/-- From memories that agree on the arguments, the kernel and the reference end with equal results. -/
theorem same_result : algebraic_KernelIdeal_ReferenceIdeal_pre_top_score_is_finite := by
  intro m g m' g' hp hagree
  refine ⟨KernelIdeal.Pool.computed m, ?_, ?_⟩
  · exact (θ_run KernelIdeal.defs _ _).mono (fun r h => h.1) (KernelIdeal.Pool.run m g)
  · refine (θ_run ReferenceIdeal.defs _ _).mono (fun r h c => ⟨(h c).1.trans ?_, (h c).2⟩) (ReferenceIdeal.Pool.run m' g')
    rw [(hagree c).1, (hagree c).2]
    exact (computed_eq_result m hp c).symm

/-- Every claim of the certificate. -/
theorem claim : Cert.Claim :=
  ⟨Cert.Kernel.Gen.facts, Cert.KernelIdeal.Gen.facts, Cert.ReferenceIdeal.Gen.facts, Cert.Pre_top_score_is_finite.Gen.facts,
    fun m g _ => Cert.Kernel.Pool.frame_run m g,
    fun m g _ => Cert.KernelIdeal.Pool.frame_run m g,
    fun m g _ => Cert.KernelIdeal.Pool.frame_run m g,
    fun m g _ => Cert.ReferenceIdeal.Pool.frame_run m g,
    fun m g _ => Cert.ReferenceIdeal.Pool.frame_run m g,
    trivial,
    same_result⟩

end Cert.Proof

end
